-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S320000x15 : Shape := ⟨2, ![320000, 15]⟩
abbrev S10000 : Shape := ⟨1, ![10000]⟩
abbrev S128x64 : Shape := ⟨2, ![128, 64]⟩
abbrev S64 : Shape := ⟨1, ![64]⟩
abbrev S15x64 : Shape := ⟨2, ![15, 64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x15 : S_.BroadcastsInDim S320000x15 (![] : Fin 0 → Fin S320000x15.rank)
  reducesTo_S320000x15_S_d0_1 : S320000x15.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S15x64 : S_.BroadcastsInDim S15x64 (![] : Fin 0 → Fin S15x64.rank)
  reducesTo_S15x64_S_d0_1 : S15x64.ReducesTo [0, 1] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg13 : FVec F S15x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S15x64 .f32 := Host.absf main_arg13
  let main_cst_20 : FVec F S_ .f32 := constant S_ .f32 0x7F800000#32
  let main_v55 : FVec F S15x64 .f32 := broadcastInDim S15x64 ![] bcast_S_S15x64 main_cst_20
  let main_v56 : IVec S15x64 1 := cmpf .olt main_v54 main_v55
  let main_c_21 : IVec S_ 1 := constantI S_ 1 1#1
  let main_v57 : IVec S_ 1 := (fun x v => Host.reduce IntOp.andi x v reducesTo_S15x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S64 .f32) (main_arg10 : FVec F S64x64 .f32) (main_arg11 : FVec F S64 .f32) (main_arg12 : FVec F S64 .f32) (main_arg13 : FVec F S15x64 .f32) (main_arg14 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S15x64 .f32) (main_arg8 : FVec F S64 .f32) (main_arg9 : FVec F S64 .f32) (main_arg10 : FVec F S64x64 .f32) (main_arg11 : FVec F S64 .f32) (main_arg12 : FVec F S64 .f32) (main_arg13 : FVec F S15x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S15x64 .f32 := Host.absf main_arg7
  let main_cst_8 : FVec F S_ .f32 := constant S_ .f32 0x7F800000#32
  let main_v25 : FVec F S15x64 .f32 := broadcastInDim S15x64 ![] bcast_S_S15x64 main_cst_8
  let main_v26 : IVec S15x64 1 := cmpf .olt main_v24 main_v25
  let main_c_9 : IVec S_ 1 := constantI S_ 1 1#1
  let main_v27 : IVec S_ 1 := (fun x v => Host.reduce IntOp.andi x v reducesTo_S15x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S10000x128 .f32) (main_arg1 : IVec S2x320000 32) (main_arg2 : FVec F S320000x15 .f32) (main_arg3 : IVec S10000 32) (main_arg4 : FVec F S128x64 .f32) (main_arg5 : FVec F S64 .f32) (main_arg6 : FVec F S64 .f32) (main_arg7 : FVec F S15x64 .f32) (main_arg8 : FVec F S64 .f32) (main_arg9 : FVec F S64 .f32) (main_arg10 : FVec F S64x64 .f32) (main_arg11 : FVec F S64 .f32) (main_arg12 : FVec F S64 .f32) (main_arg13 : FVec F S15x64 .f32) (main_arg14 : FVec F S64 .f32) (main_arg15 : FVec F S64 .f32) (main_arg16 : FVec F S64x1 .f32) (main_arg17 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x15 .f32 := Host.absf main_arg2
  let main_cst_0 : FVec F S_ .f32 := constant S_ .f32 0x7F800000#32
  let main_v5 : FVec F S320000x15 .f32 := broadcastInDim S320000x15 ![] bcast_S_S320000x15 main_cst_0
  let main_v6 : IVec S320000x15 1 := cmpf .olt main_v4 main_v5
  let main_c_1 : IVec S_ 1 := constantI S_ 1 1#1
  let main_v7 : IVec S_ 1 := (fun x v => Host.reduce IntOp.andi x v reducesTo_S320000x15_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_v13 main_v16
-- ==== Kernel.lean ====
abbrev S10000x128 : Shape := ⟨2, ![10000, 128]⟩
abbrev S2x320000 : Shape := ⟨2, ![2, 320000]⟩
abbrev S320000x15 : Shape := ⟨2, ![320000, 15]⟩
abbrev S10000 : Shape := ⟨1, ![10000]⟩
abbrev S128x64 : Shape := ⟨2, ![128, 64]⟩
abbrev S64 : Shape := ⟨1, ![64]⟩
abbrev S15x64 : Shape := ⟨2, ![15, 64]⟩
abbrev S64x64 : Shape := ⟨2, ![64, 64]⟩
abbrev S64x1 : Shape := ⟨2, ![64, 1]⟩
abbrev S1 : Shape := ⟨1, ![1]⟩
abbrev S1x320000 : Shape := ⟨2, ![1, 320000]⟩
abbrev S320000 : Shape := ⟨1, ![320000]⟩
abbrev S15 : Shape := ⟨1, ![15]⟩
abbrev S10000x64 : Shape := ⟨2, ![10000, 64]⟩
abbrev S_ : Shape := ⟨0, ![]⟩
abbrev S320000x1 : Shape := ⟨2, ![320000, 1]⟩
abbrev S320000x64 : Shape := ⟨2, ![320000, 64]⟩
abbrev S10000x1 : Shape := ⟨2, ![10000, 1]⟩
abbrev S1x64 : Shape := ⟨2, ![1, 64]⟩
abbrev S1x10000 : Shape := ⟨2, ![1, 10000]⟩
abbrev S64x10000 : Shape := ⟨2, ![64, 10000]⟩
abbrev S1x1 : Shape := ⟨2, ![1, 1]⟩

abbrev nBuf : Space → Nat
  | .hbm => 202
  | .vmem => 2
  | .smem => 0
  | _ => 0

abbrev hbmTy0_0 (i : Nat) : BufTy := match i % 128 with
  | 0 => ⟨S10000x128, .f32⟩
  | 1 => ⟨S2x320000, .i32⟩
  | 2 => ⟨S320000x15, .f32⟩
  | 3 => ⟨S10000, .i32⟩
  | 4 => ⟨S128x64, .f32⟩
  | 5 => ⟨S64, .f32⟩
  | 6 => ⟨S64, .f32⟩
  | 7 => ⟨S15x64, .f32⟩
  | 8 => ⟨S64, .f32⟩
  | 9 => ⟨S64, .f32⟩
  | 10 => ⟨S64x64, .f32⟩
  | 11 => ⟨S64, .f32⟩
  | 12 => ⟨S64, .f32⟩
  | 13 => ⟨S15x64, .f32⟩
  | 14 => ⟨S64, .f32⟩
  | 15 => ⟨S64, .f32⟩
  | 16 => ⟨S64x1, .f32⟩
  | 17 => ⟨S1, .f32⟩
  | 18 => ⟨S1x320000, .i32⟩
  | 19 => ⟨S320000, .i32⟩
  | 20 => ⟨S1x320000, .i32⟩
  | 21 => ⟨S320000, .i32⟩
  | 22 => ⟨S15, .f32⟩
  | 23 => ⟨S320000, .f32⟩
  | 24 => ⟨S15, .f32⟩
  | 25 => ⟨S320000, .f32⟩
  | 26 => ⟨S10000x64, .f32⟩
  | 27 => ⟨S10000, .f32⟩
  | 28 => ⟨S10000, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000, .f32⟩
  | 57 => ⟨S320000, .f32⟩
  | 58 => ⟨S320000, .f32⟩
  | 59 => ⟨S_, .f32⟩
  | 60 => ⟨S320000, .f32⟩
  | 61 => ⟨S320000, .i1⟩
  | 62 => ⟨S_, .f32⟩
  | 63 => ⟨S320000, .f32⟩
  | 64 => ⟨S320000, .f32⟩
  | 65 => ⟨S320000, .f32⟩
  | 66 => ⟨S320000, .f32⟩
  | 67 => ⟨S320000, .f32⟩
  | 68 => ⟨S320000, .f32⟩
  | 69 => ⟨S_, .f32⟩
  | 70 => ⟨S10000, .f32⟩
  | 71 => ⟨S320000x1, .i32⟩
  | 72 => ⟨S10000, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x64, .f32⟩
  | 82 => ⟨S320000x1, .f32⟩
  | 83 => ⟨S320000x64, .f32⟩
  | 84 => ⟨S320000x64, .f32⟩
  | 85 => ⟨S_, .f32⟩
  | 86 => ⟨S10000x64, .f32⟩
  | 87 => ⟨S320000x1, .i32⟩
  | 88 => ⟨S10000x64, .f32⟩
  | 89 => ⟨S_, .f32⟩
  | 90 => ⟨S10000, .f32⟩
  | 91 => ⟨S10000, .i1⟩
  | 92 => ⟨S_, .f32⟩
  | 93 => ⟨S_, .f32⟩
  | 94 => ⟨S10000, .f32⟩
  | 95 => ⟨S10000, .f32⟩
  | 96 => ⟨S10000x1, .f32⟩
  | 97 => ⟨S10000x64, .f32⟩
  | 98 => ⟨S10000x64, .f32⟩
  | 99 => ⟨S1x64, .f32⟩
  | 100 => ⟨S10000x64, .f32⟩
  | 101 => ⟨S10000x64, .f32⟩
  | 102 => ⟨S_, .f32⟩
  | 103 => ⟨S10000x64, .f32⟩
  | 104 => ⟨S10000x64, .f32⟩
  | 105 => ⟨S10000x64, .f32⟩
  | 106 => ⟨S10000, .f32⟩
  | 107 => ⟨S10000, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S320000, .f32⟩
  | 127 => ⟨S_, .i32⟩
  | _ => ⟨S10000x128, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000, .f32⟩
  | 8 => ⟨S320000, .f32⟩
  | 9 => ⟨S320000, .f32⟩
  | 10 => ⟨S_, .f32⟩
  | 11 => ⟨S320000, .f32⟩
  | 12 => ⟨S320000, .i1⟩
  | 13 => ⟨S_, .f32⟩
  | 14 => ⟨S320000, .f32⟩
  | 15 => ⟨S320000, .f32⟩
  | 16 => ⟨S320000, .f32⟩
  | 17 => ⟨S320000, .f32⟩
  | 18 => ⟨S320000, .f32⟩
  | 19 => ⟨S320000, .f32⟩
  | 20 => ⟨S_, .f32⟩
  | 21 => ⟨S10000, .f32⟩
  | 22 => ⟨S320000x1, .i32⟩
  | 23 => ⟨S10000, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x64, .f32⟩
  | 33 => ⟨S320000x1, .f32⟩
  | 34 => ⟨S320000x64, .f32⟩
  | 35 => ⟨S320000x64, .f32⟩
  | 36 => ⟨S_, .f32⟩
  | 37 => ⟨S10000x64, .f32⟩
  | 38 => ⟨S320000x1, .i32⟩
  | 39 => ⟨S10000x64, .f32⟩
  | 40 => ⟨S_, .f32⟩
  | 41 => ⟨S10000, .f32⟩
  | 42 => ⟨S10000, .i1⟩
  | 43 => ⟨S_, .f32⟩
  | 44 => ⟨S_, .f32⟩
  | 45 => ⟨S10000, .f32⟩
  | 46 => ⟨S10000, .f32⟩
  | 47 => ⟨S10000x1, .f32⟩
  | 48 => ⟨S10000x64, .f32⟩
  | 49 => ⟨S10000x64, .f32⟩
  | 50 => ⟨S1x64, .f32⟩
  | 51 => ⟨S10000x64, .f32⟩
  | 52 => ⟨S10000x64, .f32⟩
  | 53 => ⟨S1x10000, .i32⟩
  | 54 => ⟨S64, .i32⟩
  | 55 => ⟨S64x1, .i32⟩
  | 56 => ⟨S64x10000, .i32⟩
  | 57 => ⟨S64x10000, .i32⟩
  | 58 => ⟨S64x10000, .i1⟩
  | 59 => ⟨S64x10000, .f32⟩
  | 60 => ⟨S64x64, .f32⟩
  | 61 => ⟨S_, .f32⟩
  | 62 => ⟨S64, .f32⟩
  | 63 => ⟨S_, .f32⟩
  | 64 => ⟨S64, .f32⟩
  | 65 => ⟨S64, .f32⟩
  | 66 => ⟨S64x1, .f32⟩
  | 67 => ⟨S64x64, .f32⟩
  | 68 => ⟨S64x64, .f32⟩
  | 69 => ⟨S64x1, .f32⟩
  | 70 => ⟨S1x1, .f32⟩
  | 71 => ⟨S64x1, .f32⟩
  | 72 => ⟨S64x1, .f32⟩
  | 73 => ⟨S64x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S64x1, .f32⟩
  | .local _ .vmem, ⟨1, _⟩ => ⟨S64x1, .f32⟩
  | _, _ => ⟨S10000x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_call1_v0 : Ref sig .tc := ⟨.hbm, 93, rfl⟩
abbrev main_call1_v1 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call2_cst : Ref sig .tc := ⟨.hbm, 102, rfl⟩
abbrev main_call2_v0 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_cst_15 : Ref sig .tc := ⟨.hbm, 110, rfl⟩
abbrev main_v71 : Ref sig .tc := ⟨.hbm, 111, rfl⟩
abbrev main_v72 : Ref sig .tc := ⟨.hbm, 112, rfl⟩
abbrev main_cst_16 : Ref sig .tc := ⟨.hbm, 113, rfl⟩
abbrev main_v73 : Ref sig .tc := ⟨.hbm, 114, rfl⟩
abbrev main_v74 : Ref sig .tc := ⟨.hbm, 115, rfl⟩
abbrev main_cst_17 : Ref sig .tc := ⟨.hbm, 116, rfl⟩
abbrev main_v75 : Ref sig .tc := ⟨.hbm, 117, rfl⟩
abbrev main_c_18 : Ref sig .tc := ⟨.hbm, 118, rfl⟩
abbrev main_v76 : Ref sig .tc := ⟨.hbm, 119, rfl⟩
abbrev main_v77 : Ref sig .tc := ⟨.hbm, 120, rfl⟩
abbrev main_c_19 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_c_20 : Ref sig .tc := ⟨.hbm, 127, rfl⟩
abbrev main_v83 : Ref sig .tc := ⟨.hbm, 128, rfl⟩
abbrev main_v84 : Ref sig .tc := ⟨.hbm, 129, rfl⟩
abbrev main_c_21 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_22 : Ref sig .tc := ⟨.hbm, 138, rfl⟩
abbrev main_v92 : Ref sig .tc := ⟨.hbm, 139, rfl⟩
abbrev main_v93 : Ref sig .tc := ⟨.hbm, 140, rfl⟩
abbrev main_cst_23 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_24 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_c_25 : Ref sig .tc := ⟨.hbm, 152, rfl⟩
abbrev main_v103 : Ref sig .tc := ⟨.hbm, 153, rfl⟩
abbrev main_v104 : Ref sig .tc := ⟨.hbm, 154, rfl⟩
abbrev main_c_26 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_27 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_28 : Ref sig .tc := ⟨.hbm, 168, rfl⟩
abbrev main_v116 : Ref sig .tc := ⟨.hbm, 169, rfl⟩
abbrev main_v117 : Ref sig .tc := ⟨.hbm, 170, rfl⟩
abbrev main_cst_29 : Ref sig .tc := ⟨.hbm, 171, rfl⟩
abbrev main_call4_v0 : Ref sig .tc := ⟨.hbm, 172, rfl⟩
abbrev main_call4_v1 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_30 : Ref sig .tc := ⟨.hbm, 189, rfl⟩
abbrev main_v133 : Ref sig .tc := ⟨.hbm, 190, rfl⟩
abbrev main_cst_31 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S320000x15 : Shape := ⟨2, ![320000, 15]⟩
abbrev S10000 : Shape := ⟨1, ![10000]⟩
abbrev S128x64 : Shape := ⟨2, ![128, 64]⟩
abbrev S64 : Shape := ⟨1, ![64]⟩
abbrev S15x64 : Shape := ⟨2, ![15, 64]⟩
abbrev S64x64 : Shape := ⟨2, ![64, 64]⟩
abbrev S64x1 : Shape := ⟨2, ![64, 1]⟩
abbrev S1 : Shape := ⟨1, ![1]⟩
abbrev S1x320000 : Shape := ⟨2, ![1, 320000]⟩
abbrev S320000 : Shape := ⟨1, ![320000]⟩
abbrev S10000x64 : Shape := ⟨2, ![10000, 64]⟩
abbrev S320000x64 : Shape := ⟨2, ![320000, 64]⟩
abbrev S1x64 : Shape := ⟨2, ![1, 64]⟩
abbrev S_ : Shape := ⟨0, ![]⟩
abbrev S320000x1 : Shape := ⟨2, ![320000, 1]⟩
abbrev S10000x1 : Shape := ⟨2, ![10000, 1]⟩
abbrev S10000x320000 : Shape := ⟨2, ![10000, 320000]⟩
abbrev S1x1 : Shape := ⟨2, ![1, 1]⟩

abbrev nBuf : Space → Nat
  | .hbm => 268
  | .vmem => 0
  | .smem => 0
  | _ => 0

abbrev hbmTy0_0 (i : Nat) : BufTy := match i % 128 with
  | 0 => ⟨S10000x128, .f32⟩
  | 1 => ⟨S2x320000, .i32⟩
  | 2 => ⟨S320000x15, .f32⟩
  | 3 => ⟨S10000, .i32⟩
  | 4 => ⟨S128x64, .f32⟩
  | 5 => ⟨S64, .f32⟩
  | 6 => ⟨S64, .f32⟩
  | 7 => ⟨S15x64, .f32⟩
  | 8 => ⟨S64, .f32⟩
  | 9 => ⟨S64, .f32⟩
  | 10 => ⟨S64x64, .f32⟩
  | 11 => ⟨S64, .f32⟩
  | 12 => ⟨S64, .f32⟩
  | 13 => ⟨S15x64, .f32⟩
  | 14 => ⟨S64, .f32⟩
  | 15 => ⟨S64, .f32⟩
  | 16 => ⟨S64x1, .f32⟩
  | 17 => ⟨S1, .f32⟩
  | 18 => ⟨S1x320000, .i32⟩
  | 19 => ⟨S320000, .i32⟩
  | 20 => ⟨S1x320000, .i32⟩
  | 21 => ⟨S320000, .i32⟩
  | 22 => ⟨S10000x64, .f32⟩
  | 23 => ⟨S320000x64, .f32⟩
  | 24 => ⟨S1x64, .f32⟩
  | 25 => ⟨S10000x64, .f32⟩
  | 26 => ⟨S10000x64, .f32⟩
  | 27 => ⟨S_, .f32⟩
  | 28 => ⟨S10000, .f32⟩
  | 29 => ⟨S1x64, .f32⟩
  | 30 => ⟨S10000x64, .f32⟩
  | 31 => ⟨S10000x64, .f32⟩
  | 32 => ⟨S_, .f32⟩
  | 33 => ⟨S10000, .f32⟩
  | 34 => ⟨S1x64, .f32⟩
  | 35 => ⟨S320000x64, .f32⟩
  | 36 => ⟨S320000x64, .f32⟩
  | 37 => ⟨S_, .f32⟩
  | 38 => ⟨S320000, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000, .f32⟩
  | 57 => ⟨S320000, .f32⟩
  | 58 => ⟨S320000, .f32⟩
  | 59 => ⟨S_, .f32⟩
  | 60 => ⟨S_, .f32⟩
  | 61 => ⟨S320000, .f32⟩
  | 62 => ⟨S320000, .i1⟩
  | 63 => ⟨S_, .f32⟩
  | 64 => ⟨S320000, .f32⟩
  | 65 => ⟨S320000, .f32⟩
  | 66 => ⟨S320000, .f32⟩
  | 67 => ⟨S1x320000, .i32⟩
  | 68 => ⟨S10000, .i32⟩
  | 69 => ⟨S10000x1, .i32⟩
  | 70 => ⟨S10000x320000, .i32⟩
  | 71 => ⟨S10000x320000, .i32⟩
  | 72 => ⟨S10000x320000, .i1⟩
  | 73 => ⟨S1x320000, .f32⟩
  | 74 => ⟨S_, .f32⟩
  | 75 => ⟨S_, .f32⟩
  | 76 => ⟨S10000x320000, .f32⟩
  | 77 => ⟨S10000x320000, .f32⟩
  | 78 => ⟨S10000x320000, .f32⟩
  | 79 => ⟨S_, .f32⟩
  | 80 => ⟨S10000, .f32⟩
  | 81 => ⟨S10000, .f32⟩
  | 82 => ⟨S_, .f32⟩
  | 83 => ⟨S10000, .f32⟩
  | 84 => ⟨S10000, .i1⟩
  | 85 => ⟨S_, .f32⟩
  | 86 => ⟨S_, .f32⟩
  | 87 => ⟨S10000, .f32⟩
  | 88 => ⟨S10000, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S320000, .f32⟩
  | 98 => ⟨S320000, .f32⟩
  | 99 => ⟨S320000, .f32⟩
  | 100 => ⟨S_, .f32⟩
  | 101 => ⟨S10000, .f32⟩
  | 102 => ⟨S320000x1, .i32⟩
  | 103 => ⟨S10000, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000, .f32⟩
  | 113 => ⟨S320000, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S320000x64, .f32⟩
  | 123 => ⟨S320000x1, .f32⟩
  | 124 => ⟨S320000x64, .f32⟩
  | 125 => ⟨S320000x64, .f32⟩
  | 126 => ⟨S_, .f32⟩
  | 127 => ⟨S10000x64, .f32⟩
  | _ => ⟨S10000x128, .f32⟩

abbrev hbmTy0_1 (i : Nat) : BufTy := match i % 128 with
  | 0 => ⟨S320000x1, .i32⟩
  | 1 => ⟨S10000x64, .f32⟩
  | 2 => ⟨S1x64, .f32⟩
  | 3 => ⟨S10000x64, .f32⟩
  | 4 => ⟨S10000x64, .f32⟩
  | 5 => ⟨S_, .f32⟩
  | 6 => ⟨S10000x64, .f32⟩
  | 7 => ⟨S10000x64, .f32⟩
  | 8 => ⟨S10000x64, .f32⟩
  | 9 => ⟨S320000x64, .f32⟩
  | 10 => ⟨S1x64, .f32⟩
  | 11 => ⟨S10000x64, .f32⟩
  | 12 => ⟨S10000x64, .f32⟩
  | 13 => ⟨S_, .f32⟩
  | 14 => ⟨S10000, .f32⟩
  | 15 => ⟨S1x64, .f32⟩
  | 16 => ⟨S10000x64, .f32⟩
  | 17 => ⟨S10000x64, .f32⟩
  | 18 => ⟨S_, .f32⟩
  | 19 => ⟨S10000, .f32⟩
  | 20 => ⟨S1x64, .f32⟩
  | 21 => ⟨S320000x64, .f32⟩
  | 22 => ⟨S320000x64, .f32⟩
  | 23 => ⟨S_, .f32⟩
  | 24 => ⟨S320000, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000, .f32⟩
  | 43 => ⟨S320000, .f32⟩
  | 44 => ⟨S320000, .f32⟩
  | 45 => ⟨S_, .f32⟩
  | 46 => ⟨S_, .f32⟩
  | 47 => ⟨S320000, .f32⟩
  | 48 => ⟨S320000, .i1⟩
  | 49 => ⟨S_, .f32⟩
  | 50 => ⟨S320000, .f32⟩
  | 51 => ⟨S320000, .f32⟩
  | 52 => ⟨S320000, .f32⟩
  | 53 => ⟨S1x320000, .i32⟩
  | 54 => ⟨S10000, .i32⟩
  | 55 => ⟨S10000x1, .i32⟩
  | 56 => ⟨S10000x320000, .i32⟩
  | 57 => ⟨S10000x320000, .i32⟩
  | 58 => ⟨S10000x320000, .i1⟩
  | 59 => ⟨S1x320000, .f32⟩
  | 60 => ⟨S_, .f32⟩
  | 61 => ⟨S_, .f32⟩
  | 62 => ⟨S10000x320000, .f32⟩
  | 63 => ⟨S10000x320000, .f32⟩
  | 64 => ⟨S10000x320000, .f32⟩
  | 65 => ⟨S_, .f32⟩
  | 66 => ⟨S10000, .f32⟩
  | 67 => ⟨S10000, .f32⟩
  | 68 => ⟨S_, .f32⟩
  | 69 => ⟨S10000, .f32⟩
  | 70 => ⟨S10000, .i1⟩
  | 71 => ⟨S_, .f32⟩
  | 72 => ⟨S_, .f32⟩
  | 73 => ⟨S10000, .f32⟩
  | 74 => ⟨S10000, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000, .f32⟩
  | 84 => ⟨S320000, .f32⟩
  | 85 => ⟨S320000, .f32⟩
  | 86 => ⟨S_, .f32⟩
  | 87 => ⟨S10000, .f32⟩
  | 88 => ⟨S320000x1, .i32⟩
  | 89 => ⟨S10000, .f32⟩
  | 90 => ⟨S_, .i32⟩
  | 91 => ⟨S320000, .i32⟩
  | 92 => ⟨S320000, .i1⟩
  | 93 => ⟨S_, .i32⟩
  | 94 => ⟨S320000, .i32⟩
  | 95 => ⟨S320000, .i32⟩
  | 96 => ⟨S320000, .i32⟩
  | 97 => ⟨S320000x1, .i32⟩
  | 98 => ⟨S320000, .f32⟩
  | 99 => ⟨S320000, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x64, .f32⟩
  | 109 => ⟨S320000x1, .f32⟩
  | 110 => ⟨S320000x64, .f32⟩
  | 111 => ⟨S320000x64, .f32⟩
  | 112 => ⟨S_, .f32⟩
  | 113 => ⟨S10000x64, .f32⟩
  | 114 => ⟨S320000x1, .i32⟩
  | 115 => ⟨S10000x64, .f32⟩
  | 116 => ⟨S1x64, .f32⟩
  | 117 => ⟨S10000x64, .f32⟩
  | 118 => ⟨S10000x64, .f32⟩
  | 119 => ⟨S_, .f32⟩
  | 120 => ⟨S64x64, .f32⟩
  | 121 => ⟨S10000x1, .i32⟩
  | 122 => ⟨S64x64, .f32⟩
  | 123 => ⟨S_, .f32⟩
  | 124 => ⟨S10000, .f32⟩
  | 125 => ⟨S_, .f32⟩
  | 126 => ⟨S64, .f32⟩
  | 127 => ⟨S10000x1, .i32⟩
  | _ => ⟨S10000x128, .f32⟩

abbrev hbmTy0_2 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x64, .f32⟩
  | 6 => ⟨S64x64, .f32⟩
  | 7 => ⟨S64x1, .f32⟩
  | 8 => ⟨S1x1, .f32⟩
  | 9 => ⟨S64x1, .f32⟩
  | 10 => ⟨S64x1, .f32⟩
  | 11 => ⟨S64x1, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_6 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v42 : Ref sig .tc := ⟨.hbm, 78, rfl⟩
abbrev main_cst_7 : Ref sig .tc := ⟨.hbm, 79, rfl⟩
abbrev main_v43 : Ref sig .tc := ⟨.hbm, 80, rfl⟩
abbrev main_v44 : Ref sig .tc := ⟨.hbm, 81, rfl⟩
abbrev main_cst_8 : Ref sig .tc := ⟨.hbm, 82, rfl⟩
abbrev main_v45 : Ref sig .tc := ⟨.hbm, 83, rfl⟩
abbrev main_v46 : Ref sig .tc := ⟨.hbm, 84, rfl⟩
abbrev main_cst_9 : Ref sig .tc := ⟨.hbm, 85, rfl⟩
abbrev main_call2_v0 : Ref sig .tc := ⟨.hbm, 86, rfl⟩
abbrev main_call2_v1 : Ref sig .tc := ⟨.hbm, 87, rfl⟩
abbrev main_v47 : Ref sig .tc := ⟨.hbm, 88, rfl⟩
abbrev main_c_10 : Ref sig .tc := ⟨.hbm, 89, rfl⟩
abbrev main_v48 : Ref sig .tc := ⟨.hbm, 90, rfl⟩
abbrev main_v49 : Ref sig .tc := ⟨.hbm, 91, rfl⟩
abbrev main_c_11 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_12 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c_13 : Ref sig .tc := ⟨.hbm, 104, rfl⟩
abbrev main_v60 : Ref sig .tc := ⟨.hbm, 105, rfl⟩
abbrev main_v61 : Ref sig .tc := ⟨.hbm, 106, rfl⟩
abbrev main_c_14 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_c_15 : Ref sig .tc := ⟨.hbm, 114, rfl⟩
abbrev main_v68 : Ref sig .tc := ⟨.hbm, 115, rfl⟩
abbrev main_v69 : Ref sig .tc := ⟨.hbm, 116, rfl⟩
abbrev main_c_16 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_17 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_call3_cst : Ref sig .tc := ⟨.hbm, 133, rfl⟩
abbrev main_call3_v0 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_18 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_19 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_20 : Ref sig .tc := ⟨.hbm, 151, rfl⟩
abbrev main_v98 : Ref sig .tc := ⟨.hbm, 152, rfl⟩
abbrev main_c_21 : Ref sig .tc := ⟨.hbm, 153, rfl⟩
abbrev main_v99 : Ref sig .tc := ⟨.hbm, 154, rfl⟩
abbrev main_v100 : Ref sig .tc := ⟨.hbm, 155, rfl⟩
abbrev main_c_22 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_c_23 : Ref sig .tc := ⟨.hbm, 162, rfl⟩
abbrev main_v106 : Ref sig .tc := ⟨.hbm, 163, rfl⟩
abbrev main_v107 : Ref sig .tc := ⟨.hbm, 164, rfl⟩
abbrev main_c_24 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_cst_25 : Ref sig .tc := ⟨.hbm, 173, rfl⟩
abbrev main_call4_cst : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_26 : Ref sig .tc := ⟨.hbm, 188, rfl⟩
abbrev main_call5_v0 : Ref sig .tc := ⟨.hbm, 189, rfl⟩
abbrev main_call5_v1 : Ref sig .tc := ⟨.hbm, 190, rfl⟩
abbrev main_call5_v2 : Ref sig .tc := ⟨.hbm, 191, rfl⟩
abbrev main_v123 : Ref sig .tc := ⟨.hbm, 192, rfl⟩
abbrev main_cst_27 : Ref sig .tc := ⟨.hbm, 193, rfl⟩
abbrev main_v124 : Ref sig .tc := ⟨.hbm, 194, rfl⟩
abbrev main_v125 : Ref sig .tc := ⟨.hbm, 195, rfl⟩
abbrev main_cst_28 : Ref sig .tc := ⟨.hbm, 196, rfl⟩
abbrev main_v126 : Ref sig .tc := ⟨.hbm, 197, rfl⟩
abbrev main_v127 : Ref sig .tc := ⟨.hbm, 198, rfl⟩
abbrev main_cst_29 : Ref sig .tc := ⟨.hbm, 199, rfl⟩
abbrev main_call6_v0 : Ref sig .tc := ⟨.hbm, 200, rfl⟩
abbrev main_call6_v1 : Ref sig .tc := ⟨.hbm, 201, rfl⟩
abbrev main_v128 : Ref sig .tc := ⟨.hbm, 202, rfl⟩
abbrev main_c_30 : Ref sig .tc := ⟨.hbm, 203, rfl⟩
abbrev main_v129 : Ref sig .tc := ⟨.hbm, 204, rfl⟩
abbrev main_v130 : Ref sig .tc := ⟨.hbm, 205, rfl⟩
abbrev main_c_31 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_cst_32 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_c_33 : Ref sig .tc := ⟨.hbm, 218, rfl⟩
abbrev main_v141 : Ref sig .tc := ⟨.hbm, 219, rfl⟩
abbrev main_v142 : Ref sig .tc := ⟨.hbm, 220, rfl⟩
abbrev main_c_34 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_c_35 : Ref sig .tc := ⟨.hbm, 228, rfl⟩
abbrev main_v149 : Ref sig .tc := ⟨.hbm, 229, rfl⟩
abbrev main_v150 : Ref sig .tc := ⟨.hbm, 230, rfl⟩
abbrev main_c_36 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_cst_37 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_cst_38 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_cst_39 : Ref sig .tc := ⟨.hbm, 251, rfl⟩
abbrev main_v168 : Ref sig .tc := ⟨.hbm, 252, rfl⟩
abbrev main_cst_40 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_cst_41 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩

abbrev nD : Nat := 1
abbrev τ : Topo := Topo.v7x

variable {F : FTy → Type} [FloatOps F]
-- ==== Proof.Attention.lean ====
/-
  The mathematics of one attention layer's weights, over the extended reals and free of any program: which operations keep a value a real number
  (`IsReal`), and that the weighted mean of a node's incoming messages does not depend on the number the attention scores are shifted by, nor on
  whether the weights are divided by their sum before or after the messages are added up (`attention`).
-/
module

public import Idealize.ShloMosaic.PureOps.Ideal.Laws

@[expose] public section

noncomputable section

namespace Cert.Gat

open Idealize.ShloMosaic

/-- The extended real `x` is a real number. -/
def IsReal (x : EReal) : Prop := ∃ r : ℝ, x = (r : EReal)

namespace IsReal

variable {x y : EReal} {ι : Type*}

theorem coe (r : ℝ) : IsReal (r : EReal) := ⟨r, rfl⟩
theorem zero : IsReal 0 := ⟨0, rfl⟩

/-- An extended real that is neither infinity is a real number. -/
theorem of_ne (hb : x ≠ ⊥) (ht : x ≠ ⊤) : IsReal x := ⟨x.toReal, (EReal.coe_toReal ht hb).symm⟩

theorem ne_top (h : IsReal x) : x ≠ ⊤ := by obtain ⟨r, rfl⟩ := h; exact EReal.coe_ne_top r
theorem ne_bot (h : IsReal x) : x ≠ ⊥ := by obtain ⟨r, rfl⟩ := h; exact EReal.coe_ne_bot r

/-- An extended real whose absolute value is below `⊤` is a real number. -/
theorem of_abs_lt (h : max x (-x) < ⊤) : IsReal x := by
  have h1 := (max_lt_iff.1 h).1
  have h2 := (max_lt_iff.1 h).2
  refine of_ne (fun e => ?_) h1.ne
  rw [e, EReal.neg_bot] at h2
  exact lt_irrefl _ h2

theorem add (hx : IsReal x) (hy : IsReal y) : IsReal (x + y) := by
  obtain ⟨a, rfl⟩ := hx; obtain ⟨b, rfl⟩ := hy; exact ⟨a + b, (EReal.coe_add a b).symm⟩
theorem sub (hx : IsReal x) (hy : IsReal y) : IsReal (x - y) := by
  obtain ⟨a, rfl⟩ := hx; obtain ⟨b, rfl⟩ := hy; exact ⟨a - b, (EReal.coe_sub a b).symm⟩
theorem mul (hx : IsReal x) (hy : IsReal y) : IsReal (x * y) := by
  obtain ⟨a, rfl⟩ := hx; obtain ⟨b, rfl⟩ := hy; exact ⟨a * b, (EReal.coe_mul a b).symm⟩
theorem max (hx : IsReal x) (hy : IsReal y) : IsReal (max x y) := by
  rcases max_choice x y with h | h <;> rw [h] <;> assumption

/-- A finite sum of real numbers is a real number. -/
theorem sum (s : Finset ι) (f : ι → EReal) (h : ∀ i ∈ s, IsReal (f i)) : IsReal (∑ i ∈ s, f i) := by
  classical
  induction s using Finset.induction_on with
  | empty => exact zero
  | insert a s ha ih =>
    rw [Finset.sum_insert ha]
    exact (h a (Finset.mem_insert_self a s)).add (ih fun i hi => h i (Finset.mem_insert_of_mem hi))

end IsReal

variable {ι : Type*}

/-- The sum of real numbers read in the extended reals is their sum read there. -/
theorem coe_sum (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two real numbers, the divisor not zero, is the real quotient. -/
theorem div_real (a b : ℝ) (hb : b ≠ 0) : Ideal.div (a : EReal) (b : EReal) = ((a / b : ℝ) : EReal) := by
  rw [Ideal.div_coe hb, ← EReal.coe_mul, mul_one_div]

/-- Summing `h e * exp (α e - C)` over a node's incoming edges and dividing by the sum of the weights `exp (α e - C)` (by one where there is no edge)
    is the sum of the `h e` weighted by `exp (α e - M)` over its own sum, whatever real numbers `C` and `M` are; and the value is a real number. -/
theorem attention (s : Finset ι) (h α : ι → EReal) (C M : EReal) (hh : ∀ e, IsReal (h e)) (hα : ∀ e, IsReal (α e)) (hC : IsReal C) (hM : IsReal M) :
    Ideal.div (∑ e ∈ s, h e * Ideal.exp (α e - C)) (if 0 < ∑ e ∈ s, Ideal.exp (α e - C) then ∑ e ∈ s, Ideal.exp (α e - C) else 1)
        = ∑ e ∈ s, h e * Ideal.div (Ideal.exp (α e - M)) (∑ e' ∈ s, Ideal.exp (α e' - M))
      ∧ IsReal (∑ e ∈ s, h e * Ideal.div (Ideal.exp (α e - M)) (∑ e' ∈ s, Ideal.exp (α e' - M))) := by
  choose g hg using hh
  choose β hβ using hα
  obtain ⟨c, rfl⟩ := hC
  obtain ⟨μ, rfl⟩ := hM
  obtain rfl : h = fun e => (g e : EReal) := funext hg
  obtain rfl : α = fun e => (β e : EReal) := funext hβ
  simp only [← EReal.coe_sub, Ideal.exp_coe, ← EReal.coe_mul, coe_sum]
  rcases s.eq_empty_or_nonempty with rfl | hs
  · refine ⟨?_, by simpa using IsReal.zero⟩
    simp only [Finset.sum_empty, EReal.coe_zero, lt_irrefl, if_false]
    rw [show (0 : EReal) = ((0 : ℝ) : EReal) from rfl, show (1 : EReal) = ((1 : ℝ) : EReal) from rfl, div_real _ _ one_ne_zero, zero_div]
  · have hc : 0 < ∑ e ∈ s, Real.exp (β e - c) := Finset.sum_pos (fun e _ => Real.exp_pos _) hs
    have hm : 0 < ∑ e ∈ s, Real.exp (β e - μ) := Finset.sum_pos (fun e _ => Real.exp_pos _) hs
    rw [if_pos (EReal.coe_pos.2 hc)]
    simp only [div_real _ _ hm.ne', div_real _ _ hc.ne', ← EReal.coe_mul, coe_sum]
    refine ⟨congrArg _ ?_, IsReal.coe _⟩
    have key : ∀ e, Real.exp (β e - c) = Real.exp (β e - μ) * Real.exp (μ - c) := fun e => by
      rw [← Real.exp_add]; congr 1; ring
    simp only [key, ← mul_assoc, ← Finset.sum_mul]
    rw [mul_div_mul_right _ _ (Real.exp_ne_zero _), Finset.sum_div]
    exact Finset.sum_congr rfl fun e _ => mul_div_assoc _ _ _

/-- The score of an edge's features: contracting the features with the weights and then with the attention vector is contracting them with the weights'
    own contraction with that vector, where all are real numbers. -/
theorem contract_assoc {K H : Type*} [Fintype K] [Fintype H] (a : K → EReal) (w : K → H → EReal) (v : H → EReal)
    (ha : ∀ k, IsReal (a k)) (hw : ∀ k j, IsReal (w k j)) (hv : ∀ j, IsReal (v j)) :
    ∑ j, (∑ k, a k * w k j) * v j = ∑ k, a k * ∑ j, w k j * v j := by
  choose a' ha' using ha
  choose w' hw' using hw
  choose v' hv' using hv
  simp only [ha', hw', hv', ← EReal.coe_mul, coe_sum]
  refine congrArg _ ?_
  simp only [Finset.sum_mul, Finset.mul_sum]
  rw [Finset.sum_comm]
  exact Finset.sum_congr rfl fun k _ => Finset.sum_congr rfl fun j _ => mul_assoc _ _ _

end Cert.Gat

end
-- ==== Proof.Index.lean ====
/-
  What the layer's indexed operations read and write, entry by entry, at any extents: a gather of rows or of a vector's entries by one column of index
  words (`gather_rows`, `gather_entries`), and an accumulating scatter of rows or of entries by such a column as a sum over the updates whose word
  is the row (`scatterAdd_rows`, `scatterAdd_entries`).
-/
module

public import Idealize.ShloMosaic.PureOps.Ideal.Laws
public import Idealize.ShloMosaic.Lib.Routing.Ops
public import Idealize.ShloMosaic.Lib.Routing.OpsPair
public import Idealize.ShloMosaic.Lib.StableHlo.Predicate

@[expose] public section

noncomputable section

namespace Cert.Gat

open Idealize.ShloMosaic Idealize.ShloMosaic.ValueIdx Idealize.ShloMosaic.Routing

/-- The row of an `N`-row table that a gather reads for the index word `b`: the word read signed, clamped to the rows there are. -/
def clampRow (N : Nat) (hN : 0 < N) (b : BitVec 32) : Fin N := ⟨min b.toInt.toNat (N - 1), by omega⟩

/-- A gather of single entries of a vector, by a column of index words. -/
theorem gather_entries {α : Type} {N n : Nat} (d : GatherDims (shape1 N) (shape2 n 1) (shape1 n)) (hcoll : d.collapsedSliceDims = [0])
    (hob : d.operandBatchingDims = []) (hsim : d.startIndexMap = [0]) (hivd : d.indexVectorDim = 1) (hN : 0 < N)
    (x : (shape1 N).Idx → α) (idx : IVec (shape2 n 1) 32) (e : Fin n) :
    Host.gather d x idx (ix1 e) = x (ix1 (clampRow N hN (idx (ix2 e (0 : Fin 1))))) := by
  rw [← ofFin_eq_ix1 e, StableHlo.Predicate.gather_take d hcoll hob hsim hivd x idx e hN, ofFin_eq_ix1]
  refine congrArg (fun k => x (ix1 k)) (Fin.ext ?_)
  show min (idx (StableHlo.Predicate.ixP e)).toInt.toNat (N - 1) = min (idx (ix2 e (0 : Fin 1))).toInt.toNat (N - 1)
  rw [ixP_eq_ix2]

/-- A gather of whole rows of a matrix, by a column of index words. -/
theorem gather_rows {α : Type} {N B n : Nat} (w : GatherDims.WF (shape2 N B) (shape2 n 1) (shape2 n B) [1] [0] [] [0] [] 1 ![1, B]) (hN : 0 < N)
    (x : (shape2 N B).Idx → α) (idx : IVec (shape2 n 1) 32) (e : Fin n) (f : Fin B) :
    Host.gather ⟨[1], [0], [], [], [0], 1, ![1, B], w⟩ x idx (ix2 e f) = x (ix2 (clampRow N hN (idx (ix2 e (0 : Fin 1)))) f) := by
  unfold Host.gather
  refine congrArg x (funext fun a => Fin.ext ?_)
  match a with
  | ⟨0, _⟩ =>
    have hs : (⟨[1], [0], [], [], [0], 1, ![1, B], w⟩ : GatherDims (shape2 N B) (shape2 n 1) (shape2 n B)).siIdx (ix2 e f) ⟨0, Nat.zero_lt_one⟩
        = ix2 e (0 : Fin 1) := by
      funext b
      match b with
      | ⟨0, _⟩ => rfl
      | ⟨1, _⟩ => rfl
    show min (idx ((⟨[1], [0], [], [], [0], 1, ![1, B], w⟩ : GatherDims (shape2 N B) (shape2 n 1) (shape2 n B)).siIdx (ix2 e f)
      ⟨0, Nat.zero_lt_one⟩)).toInt.toNat (N - 1) + 0 + 0 = min (idx (ix2 e (0 : Fin 1))).toInt.toNat (N - 1)
    rw [hs]
    rfl
  | ⟨1, _⟩ =>
    show 0 + 0 + f.val = f.val
    omega

/-- Update row `e`, column `g`, lands at row `r`, column `f`, exactly when `e`'s index word, read signed, is `r`, and `g` is `f`. -/
theorem lands_rows {R C n : Nat} (w : ScatterDims.WF (shape2 R C) (shape2 n 1) (shape2 n C) [1] [0] [0] 1) (idx : IVec (shape2 n 1) 32)
    (e : Fin n) (g : Fin C) (r : Fin R) (f : Fin C) :
    (⟨[1], [0], [0], 1, w⟩ : ScatterDims (shape2 R C) (shape2 n 1) (shape2 n C)).resultIdx? (ix2 e g) idx = some (ix2 r f)
      ↔ (idx (ix2 e (0 : Fin 1))).toInt = r.val ∧ g = f := by
  rw [resultIdx?_ix2]
  have h0 : (⟨[1], [0], [0], 1, w⟩ : ScatterDims (shape2 R C) (shape2 n 1) (shape2 n C)).start (ix2 e g) idx 0 = (idx (ix2 e (0 : Fin 1))).toInt := by
    show (idx _).toInt = _
    congr 2
    funext b
    match b with
    | ⟨0, _⟩ => rfl
    | ⟨1, _⟩ => rfl
  have h1 : (⟨[1], [0], [0], 1, w⟩ : ScatterDims (shape2 R C) (shape2 n 1) (shape2 n C)).start (ix2 e g) idx 1 = 0 := rfl
  have w0 : (⟨[1], [0], [0], 1, w⟩ : ScatterDims (shape2 R C) (shape2 n 1) (shape2 n C)).window (ix2 e g) 0 = 0 := rfl
  have w1 : (⟨[1], [0], [0], 1, w⟩ : ScatterDims (shape2 R C) (shape2 n 1) (shape2 n C)).window (ix2 e g) 1 = g.val := rfl
  rw [h0, h1, w0, w1, Fin.ext_iff]
  omega

/-- Update `e` of a scatter of single entries lands at entry `r` exactly when its index word, read signed, is `r`. -/
theorem lands_entries {R n : Nat} (w : ScatterDims.WF (shape1 R) (shape2 n 1) (shape1 n) [] [0] [0] 1) (idx : IVec (shape2 n 1) 32)
    (e : Fin n) (r : Fin R) :
    (⟨[], [0], [0], 1, w⟩ : ScatterDims (shape1 R) (shape2 n 1) (shape1 n)).resultIdx? (ix1 e) idx = some (ix1 r)
      ↔ (idx (ix2 e (0 : Fin 1))).toInt = r.val := by
  rw [resultIdx?_ix1]
  have h0 : (⟨[], [0], [0], 1, w⟩ : ScatterDims (shape1 R) (shape2 n 1) (shape1 n)).start (ix1 e) idx 0 = (idx (ix2 e (0 : Fin 1))).toInt := by
    show (idx _).toInt = _
    congr 2
    funext b
    match b with
    | ⟨0, _⟩ => rfl
    | ⟨1, _⟩ => rfl
  have w0 : (⟨[], [0], [0], 1, w⟩ : ScatterDims (shape1 R) (shape2 n 1) (shape1 n)).window (ix1 e) 0 = 0 := rfl
  rw [h0, w0]
  omega

/-- The updates whose index word in the column `idx`, read signed, is the row `r`. -/
def hits {R n : Nat} (idx : IVec (shape2 n 1) 32) (r : Fin R) : Finset (Fin n) :=
  Finset.univ.filter fun e => (idx (ix2 e (0 : Fin 1))).toInt = (r.val : Int)

/-- An accumulating scatter of rows: entry `(r, f)` gains entry `f` of every update row whose index word is `r`. -/
theorem scatterAdd_rows {R C n : Nat} {φ : FTy} (w : ScatterDims.WF (shape2 R C) (shape2 n 1) (shape2 n C) [1] [0] [0] 1)
    (x : FVec Ideal (shape2 R C) φ) (idx : IVec (shape2 n 1) 32) (upd : FVec Ideal (shape2 n C) φ) (r : Fin R) (f : Fin C) :
    Host.scatterAdd ⟨[1], [0], [0], 1, w⟩ x idx upd (ix2 r f) = x (ix2 r f) + ∑ e ∈ hits idx r, upd (ix2 e f) := by
  show x (ix2 r f) + _ = _
  refine congrArg (x (ix2 r f) + ·) ?_
  refine Finset.sum_bij' (fun j _ => (j 0 : Fin n)) (fun e _ => ix2 e f) ?_ ?_ ?_ ?_ ?_
  · intro j hj
    rw [eq_ix2 j] at hj
    exact Finset.mem_filter.2 ⟨Finset.mem_univ _, ((lands_rows w idx _ _ r f).1 (Finset.mem_filter.1 hj).2).1⟩
  · intro e he
    exact Finset.mem_filter.2 ⟨Finset.mem_univ _, (lands_rows w idx e f r f).2 ⟨(Finset.mem_filter.1 he).2, rfl⟩⟩
  · intro j hj
    rw [eq_ix2 j] at hj
    have := ((lands_rows w idx _ _ r f).1 (Finset.mem_filter.1 hj).2).2
    rw [← this]
    exact (eq_ix2 j).symm
  · intro e _
    rfl
  · intro j hj
    rw [eq_ix2 j] at hj
    have := ((lands_rows w idx _ _ r f).1 (Finset.mem_filter.1 hj).2).2
    rw [← this]
    exact congrArg upd (eq_ix2 j)

/-- An accumulating scatter of single entries: entry `r` gains every update whose index word is `r`. -/
theorem scatterAdd_entries {R n : Nat} {φ : FTy} (w : ScatterDims.WF (shape1 R) (shape2 n 1) (shape1 n) [] [0] [0] 1)
    (x : FVec Ideal (shape1 R) φ) (idx : IVec (shape2 n 1) 32) (upd : FVec Ideal (shape1 n) φ) (r : Fin R) :
    Host.scatterAdd ⟨[], [0], [0], 1, w⟩ x idx upd (ix1 r) = x (ix1 r) + ∑ e ∈ hits idx r, upd (ix1 e) := by
  show x (ix1 r) + _ = _
  refine congrArg (x (ix1 r) + ·) ?_
  refine Finset.sum_bij' (fun j _ => (j 0 : Fin n)) (fun e _ => ix1 e) ?_ ?_ ?_ ?_ ?_
  · intro j hj
    rw [eq_ix1 j] at hj
    exact Finset.mem_filter.2 ⟨Finset.mem_univ _, (lands_entries w idx _ r).1 (Finset.mem_filter.1 hj).2⟩
  · intro e he
    exact Finset.mem_filter.2 ⟨Finset.mem_univ _, (lands_entries w idx e r).2 (Finset.mem_filter.1 he).2⟩
  · intro j _
    exact (eq_ix1 j).symm
  · intro e _
    rfl
  · intro j _
    exact congrArg upd (eq_ix1 j)

end Cert.Gat

end
-- ==== Proof.Layer.lean ====
/-
  One attention layer as functions of its arrays, at the exact reading of the floats: the pieces the kernel and the reference share, and the layer as each
  of the two computes it (`kernelLayer`, `referenceLayer`). The two agree wherever the scores and the messages are real numbers (`layer_eq`).
-/
module

public import proofs.«01_k».proof.Proof.Gen.KernelIdeal
public import proofs.«01_k».proof.Proof.Attention
public import proofs.«01_k».proof.Proof.Index
public import Idealize.ShloMosaic.Lib.Pointwise
public import Idealize.ShloMosaic.Lib.IdealHost

@[expose] public section

set_option maxRecDepth 16384

noncomputable section

namespace Cert.Gat

open Idealize.ShloMosaic hiding ix0 ix1 ix2 eq_ix1 eq_ix2
open Idealize.ShloMosaic.ValueIdx Idealize.ShloMosaic.Routing
open Cert.KernelIdeal Cert.KernelIdeal.Facts₀

/-! ## The pieces -/

/-- One index word per edge, as the column of words a gather or a scatter takes. -/
def col (i : IVec S320000 32) : IVec S320000x1 32 := broadcastInDim S320000x1 ![0] bcast_S320000_S320000x1_0 i

/-- The index words with a negative one counted from the end of the 10000 nodes. -/
def wrap (i : IVec S320000 32) : IVec S320000 32 :=
  select (cmpi .slt i (broadcastInDim S320000 ![] bcast_S_S320000 (constantI S_ 32 0#32)))
    (addi i (broadcastInDim S320000 ![] bcast_S_S320000 (constantI S_ 32 10000#32))) i

/-- Per edge, the node entry its index word names. -/
def take (v : FVec Ideal S10000 .f32) (i : IVec S320000 32) : FVec Ideal S320000 .f32 :=
  Host.gather gather_S10000_S320000x1_S320000_n_0_n_n_0_1_1 v (col (wrap i))

/-- Per edge, the node row its index word names. -/
def takeRows (h : FVec Ideal S10000x64 .f32) (i : IVec S320000 32) : FVec Ideal S320000x64 .f32 :=
  Host.gather gather_S10000x64_S320000x1_S320000x64_1_0_n_n_0_1_164 h (col (wrap i))

/-- Per edge, the source's score plus the destination's plus the edge's own. -/
def score (sa da : FVec Ideal S10000 .f32) (ea : FVec Ideal S320000 .f32) (src dst : IVec S320000 32) : FVec Ideal S320000 .f32 :=
  addf (addf (take sa src) (take da dst)) ea

/-- The leaky rectifier of slope 0.2 on every entry. -/
def leaky (a : FVec Ideal S320000 .f32) : FVec Ideal S320000 .f32 :=
  select (cmpf .oge a (broadcastInDim S320000 ![] bcast_S_S320000 (constant S_ .f32 0x00000000#32))) a
    (mulf (broadcastInDim S320000 ![] bcast_S_S320000 (constant S_ .f32 0x3E4CCCCD#32)) a)

/-- Per node, the sum of the weights of its incoming edges. -/
def total (dst : IVec S320000 32) (w : FVec Ideal S320000 .f32) : FVec Ideal S10000 .f32 :=
  Host.scatterAdd scatter_S10000_S320000x1_S320000_n_0_0_1 (broadcastInDim S10000 ![] bcast_S_S10000 (constant S_ .f32 0x00000000#32)) (col dst) w

/-- Per node, the sum of its incoming edges' source rows, each times the edge's weight. -/
def gathered (h : FVec Ideal S10000x64 .f32) (src dst : IVec S320000 32) (w : FVec Ideal S320000 .f32) : FVec Ideal S10000x64 .f32 :=
  Host.scatterAdd scatter_S10000x64_S320000x1_S320000x64_1_0_0_1 (broadcastInDim S10000x64 ![] bcast_S_S10000x64 (constant S_ .f32 0x00000000#32)) (col dst)
    (mulf (takeRows h src) (broadcastInDim S320000x64 ![0, 1] bcast_S320000x1_S320000x64_0_1 (broadcastInDim S320000x1 ![0] bcast_S320000_S320000x1_0 w)))

/-- The bias row added to every node's row. -/
def addBias (x : FVec Ideal S10000x64 .f32) (b : FVec Ideal S64 .f32) : FVec Ideal S10000x64 .f32 :=
  addf x (broadcastInDim S10000x64 ![0, 1] bcast_S1x64_S10000x64_0_1 (broadcastInDim S1x64 ![1] bcast_S64_S1x64_1 b))

/-- The rectifier on every entry. -/
def rectify (x : FVec Ideal S10000x64 .f32) : FVec Ideal S10000x64 .f32 :=
  maximumf x (broadcastInDim S10000x64 ![] bcast_S_S10000x64 (constant S_ .f32 0x00000000#32))

/-! ## The layer, as the kernel and as the reference compute it -/

/-- The kernel's one shift for all the scores: the greatest source score plus the greatest destination score plus the greatest edge score, at least zero. -/
def shift (sa da : FVec Ideal S10000 .f32) (ea : FVec Ideal S320000 .f32) : FVec Ideal S_ .f32 :=
  maximumf (addf (addf (Host.reduce FloatOps.maximumf sa (constant S_ .f32 0xFF800000#32) reducesTo_S10000_S_d0 h_S_)
      (Host.reduce FloatOps.maximumf da (constant S_ .f32 0xFF800000#32) reducesTo_S10000_S_d0 h_S_))
    (Host.reduce FloatOps.maximumf ea (constant S_ .f32 0xFF800000#32) reducesTo_S320000_S_d0 h_S_)) (constant S_ .f32 0x00000000#32)

/-- The kernel's unnormalized weights: the exponential of the score less the one shift. -/
def kernelWeights (α : FVec Ideal S320000 .f32) (C : FVec Ideal S_ .f32) : FVec Ideal S320000 .f32 :=
  Host.exp (subf α (broadcastInDim S320000 ![] bcast_S_S320000 C))

/-- The kernel's layer: the weighted sums divided by the weights' sums (by one where there is no incoming edge), plus the bias. -/
def kernelLayer (h : FVec Ideal S10000x64 .f32) (p : FVec Ideal S320000 .f32) (src dst : IVec S320000 32) (b : FVec Ideal S64 .f32) :
    FVec Ideal S10000x64 .f32 :=
  addBias (Host.divf (gathered h src dst p)
    (broadcastInDim S10000x64 ![0, 1] bcast_S10000x1_S10000x64_0_1 (broadcastInDim S10000x1 ![0] bcast_S10000_S10000x1_0
      (select (cmpf .ogt (total dst p) (broadcastInDim S10000 ![] bcast_S_S10000 (constant S_ .f32 0x00000000#32))) (total dst p)
        (broadcastInDim S10000 ![] bcast_S_S10000 (constant S_ .f32 0x3F800000#32)))))) b

/-- The reference's shift per node: the node's number where it is finite, zero elsewhere. -/
def finiteOrZero (M : FVec Ideal S10000 .f32) : FVec Ideal S10000 .f32 :=
  select (cmpf .olt (Host.absf M) (broadcastInDim S10000 ![] bcast_S_S10000 (constant S_ .f32 0x7F800000#32))) M
    (broadcastInDim S10000 ![] bcast_S_S10000 (constant S_ .f32 0x00000000#32))

/-- The reference's unnormalized weights: the exponential of the score less its destination's shift. -/
def referenceWeights (α : FVec Ideal S320000 .f32) (M : FVec Ideal S10000 .f32) (dst : IVec S320000 32) : FVec Ideal S320000 .f32 :=
  Host.exp (subf α (take (finiteOrZero M) dst))

/-- The reference's layer: the sum of the source rows, each times its edge's weight over the destination's sum of weights, plus the bias. -/
def referenceLayer (h : FVec Ideal S10000x64 .f32) (ex : FVec Ideal S320000 .f32) (src dst : IVec S320000 32) (b : FVec Ideal S64 .f32) :
    FVec Ideal S10000x64 .f32 :=
  addBias (gathered h src dst (Host.divf ex (take (total dst ex) dst))) b

/-! ## Entry by entry -/

/-- The node an edge's index word names once wrapped and clamped. -/
def node (b : BitVec 32) : Fin 10000 :=
  clampRow 10000 (by omega) (Scalar.select (IntOp.cmpi .slt b 0#32) (IntOp.addi b 10000#32) b)

theorem col_apply (i : IVec S320000 32) (e : Fin 320000) : col i (ix2 e (0 : Fin 1)) = i (ix1 e) :=
  bcCol bcast_S320000_S320000x1_0 i e

theorem col_wrap_apply (i : IVec S320000 32) (e : Fin 320000) :
    col (wrap i) (ix2 e (0 : Fin 1)) = Scalar.select (IntOp.cmpi .slt (i (ix1 e)) 0#32) (IntOp.addi (i (ix1 e)) 10000#32) (i (ix1 e)) :=
  col_apply (wrap i) e

theorem take_apply (v : FVec Ideal S10000 .f32) (i : IVec S320000 32) (e : Fin 320000) : take v i (ix1 e) = v (ix1 (node (i (ix1 e)))) := by
  unfold take node
  rw [← col_wrap_apply]
  exact gather_entries gather_S10000_S320000x1_S320000_n_0_n_n_0_1_1 rfl rfl rfl rfl (by omega) v _ e

theorem takeRows_apply (h : FVec Ideal S10000x64 .f32) (i : IVec S320000 32) (e : Fin 320000) (f : Fin 64) :
    takeRows h i (ix2 e f) = h (ix2 (node (i (ix1 e))) f) := by
  unfold takeRows node
  rw [← col_wrap_apply]
  exact gather_rows _ (by omega) h _ e f

theorem score_apply (sa da : FVec Ideal S10000 .f32) (ea : FVec Ideal S320000 .f32) (src dst : IVec S320000 32) (e : Fin 320000) :
    score sa da ea src dst (ix1 e) = sa (ix1 (node (src (ix1 e)))) + da (ix1 (node (dst (ix1 e)))) + ea (ix1 e) := by
  rw [← take_apply sa src e, ← take_apply da dst e]
  rfl

/-- The edges whose destination word is the node `n`. -/
abbrev into (dst : IVec S320000 32) (n : Fin 10000) : Finset (Fin 320000) := hits (col dst) n

/-- An edge into node `n` names the node `n`: its word is in range, so neither the wrap nor the clamp changes it. -/
theorem node_of_into (dst : IVec S320000 32) (n : Fin 10000) (e : Fin 320000) (he : e ∈ into dst n) : node (dst (ix1 e)) = n := by
  have h := (Finset.mem_filter.1 he).2
  rw [col_apply] at h
  have hn := n.isLt
  have h0 : IntOp.cmpi .slt (dst (ix1 e)) 0#32 = 0#1 := by
    rw [WordCmp.cmpi_slt_eq, h, decide_eq_false (by simp)]
    rfl
  unfold node clampRow
  refine Fin.ext ?_
  rw [h0]
  show min (dst (ix1 e)).toInt.toNat (10000 - 1) = n.val
  rw [h]
  omega

theorem total_apply (dst : IVec S320000 32) (w : FVec Ideal S320000 .f32) (n : Fin 10000) : total dst w (ix1 n) = ∑ e ∈ into dst n, w (ix1 e) := by
  refine (scatterAdd_entries (φ := .f32) _ _ (col dst) w n).trans ?_
  show Ideal.ofBits .f32 0x00000000#32 + _ = _
  rw [Ideal.ofBits_zero_f32, zero_add]

theorem gathered_apply (h : FVec Ideal S10000x64 .f32) (src dst : IVec S320000 32) (w : FVec Ideal S320000 .f32) (n : Fin 10000) (f : Fin 64) :
    gathered h src dst w (ix2 n f) = ∑ e ∈ into dst n, h (ix2 (node (src (ix1 e))) f) * w (ix1 e) := by
  refine (scatterAdd_rows (φ := .f32) _ _ (col dst) _ n f).trans ?_
  show Ideal.ofBits .f32 0x00000000#32 + _ = _
  rw [Ideal.ofBits_zero_f32, zero_add]
  refine Finset.sum_congr rfl fun e _ => ?_
  refine congrArg₂ (· * ·) (takeRows_apply h src e f) ?_
  exact bcRows bcast_S320000_S320000x1_0 bcast_S320000x1_S320000x64_0_1 w e f

theorem addBias_apply (x : FVec Ideal S10000x64 .f32) (b : FVec Ideal S64 .f32) (n : Fin 10000) (f : Fin 64) :
    addBias x b (ix2 n f) = x (ix2 n f) + b (ix1 f) :=
  congrArg (x (ix2 n f) + ·) (bcCols bcast_S64_S1x64_1 bcast_S1x64_S10000x64_0_1 b n f)

theorem divf_apply {s : Shape} (a b : FVec Ideal s .f32) (i : s.Idx) : Host.divf a b i = Ideal.div (a i) (b i) := rfl

attribute [local irreducible] col wrap take takeRows total gathered addBias

/-! ## Real numbers stay real numbers -/

theorem isReal_leaky (a : FVec Ideal S320000 .f32) (ha : ∀ i, IsReal (a i)) (i : S320000.Idx) : IsReal (leaky a i) := by
  have hslope : IsReal (Ideal.ofBits .f32 0x3E4CCCCD#32) := by
    simp [Ideal.ofBits, Ideal.ieee, -EReal.coe_mul]
    exact ⟨_, rfl⟩
  show IsReal (Scalar.select _ (a i) (Ideal.ofBits .f32 0x3E4CCCCD#32 * a i))
  unfold Scalar.select
  split
  · exact ha i
  · exact hslope.mul (ha i)

theorem ofBits_inf_f32 : Ideal.ofBits .f32 0x7F800000#32 = ⊤ := by
  simp [Ideal.ofBits, Ideal.ieee]

theorem ofBits_neg_inf_f32 : Ideal.ofBits .f32 0xFF800000#32 = ⊥ := by
  simp [Ideal.ofBits, Ideal.ieee]

theorem isReal_finiteOrZero (M : FVec Ideal S10000 .f32) (i : S10000.Idx) : IsReal (finiteOrZero M i) := by
  show IsReal (Scalar.select (BitVec.ofBool (decide (max (M i) (-(M i)) < Ideal.ofBits .f32 0x7F800000#32))) (M i) (Ideal.ofBits .f32 0x00000000#32))
  rw [ofBits_inf_f32, Ideal.ofBits_zero_f32, WordCmp.select_decide]
  split
  next h => exact IsReal.of_abs_lt h
  next => exact IsReal.zero

/-- The greatest of finitely many numbers, none of them `+∞`, is not `+∞`. -/
theorem reduce_max_ne_top {s : Shape} {dims : List (Fin s.rank)} (x : FVec Ideal s .f32) (hred : s.ReducesTo dims S_) (hx : ∀ i, IsReal (x i)) (j : S_.Idx) :
    Host.reduce FloatOps.maximumf x (constant S_ .f32 0xFF800000#32 : FVec Ideal S_ .f32) hred h_S_ j ≠ ⊤ := by
  unfold Host.reduce
  have key' : ∀ (l : List (Fin s.numel)) (g : Fin s.numel → s.Idx) (a : EReal), a ≠ ⊤ →
      l.foldl (fun acc k => FloatOps.maximumf (F := Ideal) (φ := .f32) acc (x (g k))) a ≠ ⊤ := by
    intro l g
    induction l with
    | nil => exact fun a ha => ha
    | cons k l ih =>
      intro a ha
      refine ih _ ?_
      show max a (x (g k)) ≠ ⊤
      rcases max_choice a (x (g k)) with h | h <;> rw [h]
      · exact ha
      · exact (hx _).ne_top
  exact key' _ _ _ (by rw [show (constant S_ .f32 0xFF800000#32 : FVec Ideal S_ .f32) _ = ⊥ from ofBits_neg_inf_f32]; exact bot_ne_top)

theorem isReal_shift (sa da : FVec Ideal S10000 .f32) (ea : FVec Ideal S320000 .f32) (hs : ∀ i, IsReal (sa i)) (hd : ∀ i, IsReal (da i))
    (he : ∀ i, IsReal (ea i)) (j : S_.Idx) : IsReal (shift sa da ea j) := by
  have h1 := reduce_max_ne_top sa reducesTo_S10000_S_d0 hs j
  have h2 := reduce_max_ne_top da reducesTo_S10000_S_d0 hd j
  have h3 := reduce_max_ne_top ea reducesTo_S320000_S_d0 he j
  have hz : shift sa da ea j = max (Host.reduce FloatOps.maximumf sa (constant S_ .f32 0xFF800000#32 : FVec Ideal S_ .f32) reducesTo_S10000_S_d0 h_S_ j
      + Host.reduce FloatOps.maximumf da (constant S_ .f32 0xFF800000#32 : FVec Ideal S_ .f32) reducesTo_S10000_S_d0 h_S_ j
      + Host.reduce FloatOps.maximumf ea (constant S_ .f32 0xFF800000#32 : FVec Ideal S_ .f32) reducesTo_S320000_S_d0 h_S_ j) 0 := by
    rw [← Ideal.ofBits_zero_f32]
    rfl
  have hsum := EReal.add_ne_top (EReal.add_ne_top h1 h2) h3
  rw [hz]
  refine IsReal.of_ne ?_ ?_
  rotate_left
  · intro h
    rcases max_choice (Host.reduce FloatOps.maximumf sa (constant S_ .f32 0xFF800000#32 : FVec Ideal S_ .f32) reducesTo_S10000_S_d0 h_S_ j
      + Host.reduce FloatOps.maximumf da (constant S_ .f32 0xFF800000#32 : FVec Ideal S_ .f32) reducesTo_S10000_S_d0 h_S_ j
      + Host.reduce FloatOps.maximumf ea (constant S_ .f32 0xFF800000#32 : FVec Ideal S_ .f32) reducesTo_S320000_S_d0 h_S_ j) 0 with h' | h' <;> rw [h'] at h
    · exact hsum h
    · exact EReal.zero_ne_top h
  · intro h
    exact absurd (le_max_right _ _ : (0 : EReal) ≤ max _ 0) (by rw [h]; simp)

theorem isReal_score (sa da : FVec Ideal S10000 .f32) (ea : FVec Ideal S320000 .f32) (src dst : IVec S320000 32) (hs : ∀ i, IsReal (sa i))
    (hd : ∀ i, IsReal (da i)) (he : ∀ i, IsReal (ea i)) (i : S320000.Idx) : IsReal (score sa da ea src dst i) := by
  obtain ⟨e, rfl⟩ : ∃ e : Fin 320000, i = ix1 e := ⟨_, eq_ix1 i⟩
  rw [score_apply]
  exact ((hs _).add (hd _)).add (he _)

/-! ## The two layers agree -/

theorem kernelWeights_apply (α : FVec Ideal S320000 .f32) (C : FVec Ideal S_ .f32) (e : Fin 320000) :
    kernelWeights α C (ix1 e) = Ideal.exp (α (ix1 e) - C ix0) := by
  exact congrArg (fun c => Ideal.exp (α (ix1 e) - c)) (bc0 bcast_S_S320000 C (ix1 e))

theorem referenceWeights_apply (α : FVec Ideal S320000 .f32) (M : FVec Ideal S10000 .f32) (dst : IVec S320000 32) (e : Fin 320000) :
    referenceWeights α M dst (ix1 e) = Ideal.exp (α (ix1 e) - finiteOrZero M (ix1 (node (dst (ix1 e))))) := by
  rw [← take_apply (finiteOrZero M) dst e]
  rfl

theorem kernelLayer_apply (h : FVec Ideal S10000x64 .f32) (p : FVec Ideal S320000 .f32) (src dst : IVec S320000 32) (b : FVec Ideal S64 .f32)
    (n : Fin 10000) (f : Fin 64) :
    kernelLayer h p src dst b (ix2 n f)
      = Ideal.div (∑ e ∈ into dst n, h (ix2 (node (src (ix1 e))) f) * p (ix1 e))
          (if 0 < ∑ e ∈ into dst n, p (ix1 e) then ∑ e ∈ into dst n, p (ix1 e) else 1) + b (ix1 f) := by
  unfold kernelLayer
  rw [← gathered_apply h src dst p n f, ← total_apply dst p n]
  generalize hg : gathered h src dst p = g
  generalize ht : total dst p = t
  refine (addBias_apply _ b n f).trans (congrArg (· + b (ix1 f)) (congrArg (fun z => Ideal.div (g (ix2 n f)) z) ?_))
  refine (bcRows bcast_S10000_S10000x1_0 bcast_S10000x1_S10000x64_0_1 _ n f).trans ?_
  show Scalar.select (BitVec.ofBool (decide (Ideal.ofBits .f32 0x00000000#32 < t (ix1 n)))) (t (ix1 n)) (Ideal.ofBits .f32 0x3F800000#32) = _
  rw [WordCmp.select_decide, Ideal.ofBits_zero_f32, Ideal.ofBits_one_f32]

theorem referenceLayer_apply (h : FVec Ideal S10000x64 .f32) (ex : FVec Ideal S320000 .f32) (src dst : IVec S320000 32) (b : FVec Ideal S64 .f32)
    (n : Fin 10000) (f : Fin 64) :
    referenceLayer h ex src dst b (ix2 n f)
      = ∑ e ∈ into dst n, h (ix2 (node (src (ix1 e))) f) * Ideal.div (ex (ix1 e)) (∑ e' ∈ into dst n, ex (ix1 e')) + b (ix1 f) := by
  unfold referenceLayer
  refine (addBias_apply _ b n f).trans (congrArg (· + b (ix1 f)) ?_)
  refine (gathered_apply h src dst _ n f).trans (Finset.sum_congr rfl fun e he => congrArg (h (ix2 (node (src (ix1 e))) f) * ·) ?_)
  refine (divf_apply ex _ (ix1 e)).trans ?_
  rw [take_apply, node_of_into dst n e he, total_apply]

/-- The layer with one shift for every node and the division after the sum is the layer with a shift per node and the division before the sum, and its entries
    are real numbers where the bias's are. -/
theorem layer_eq (h : FVec Ideal S10000x64 .f32) (α : FVec Ideal S320000 .f32) (C : FVec Ideal S_ .f32) (M : FVec Ideal S10000 .f32) (src dst : IVec S320000 32)
    (b : FVec Ideal S64 .f32) (hh : ∀ i, IsReal (h i)) (hα : ∀ i, IsReal (α i)) (hC : IsReal (C ix0)) :
    kernelLayer h (kernelWeights α C) src dst b = referenceLayer h (referenceWeights α M dst) src dst b
      ∧ ((∀ i, IsReal (b i)) → ∀ i, IsReal (referenceLayer h (referenceWeights α M dst) src dst b i)) := by
  have key (n : Fin 10000) (f : Fin 64) := attention (into dst n) (fun e => h (ix2 (node (src (ix1 e))) f)) (fun e => α (ix1 e)) (C ix0)
    (finiteOrZero M (ix1 n)) (fun e => hh _) (fun e => hα _) hC (isReal_finiteOrZero M _)
  have hw (n : Fin 10000) (e : Fin 320000) (he : e ∈ into dst n) :
      referenceWeights α M dst (ix1 e) = Ideal.exp (α (ix1 e) - finiteOrZero M (ix1 n)) := by
    rw [referenceWeights_apply, node_of_into dst n e he]
  have hr (n : Fin 10000) (f : Fin 64) : referenceLayer h (referenceWeights α M dst) src dst b (ix2 n f)
      = ∑ e ∈ into dst n, h (ix2 (node (src (ix1 e))) f) * Ideal.div (Ideal.exp (α (ix1 e) - finiteOrZero M (ix1 n)))
          (∑ e' ∈ into dst n, Ideal.exp (α (ix1 e') - finiteOrZero M (ix1 n))) + b (ix1 f) := by
    rw [referenceLayer_apply, Finset.sum_congr rfl (hw n)]
    refine congrArg (· + b (ix1 f)) (Finset.sum_congr rfl fun e he => ?_)
    rw [hw n e he]
  refine ⟨funext fun i => ?_, fun hb i => ?_⟩
  · obtain ⟨n, f, rfl⟩ : ∃ (n : Fin 10000) (f : Fin 64), i = ix2 n f := ⟨_, _, eq_ix2 i⟩
    rw [hr, ← (key _ _).1, kernelLayer_apply]
    simp only [kernelWeights_apply]
  · obtain ⟨n, f, rfl⟩ : ∃ (n : Fin 10000) (f : Fin 64), i = ix2 n f := ⟨_, _, eq_ix2 i⟩
    rw [hr]
    exact (key _ _).2.add (hb _)

end Cert.Gat

end
-- ==== Proof.Products.lean ====
/-
  The products and sums of whole arrays that the two programs use, read at one entry, at the exact reading of the floats and for any sizes: a matrix times a
  vector (`matvec_apply`), a matrix times a matrix (`matmul_apply`), the sums of a matrix's rows (`rowSum_apply`); and that a product of arrays of real
  numbers is an array of real numbers (`isReal_dot`).
-/
module

public import proofs.«01_k».proof.Proof.Attention
public import Idealize.ShloMosaic.Lib.Pointwise
public import Idealize.ShloMosaic.Lib.IdealHost
public import Idealize.ShloMosaic.Lib.ValueIdx

@[expose] public section

noncomputable section

namespace Cert.Gat

open Idealize.ShloMosaic hiding ix0 ix1 ix2 eq_ix1 eq_ix2
open Idealize.ShloMosaic.ValueIdx

/-- A matrix times a vector: entry `i` is the sum over the columns of the row's entry times the vector's. -/
theorem matvec_apply {n k : Nat} {φ : FTy} (w : DotDims.WF (⟨2, ![n, k]⟩ : Shape) (⟨1, ![k]⟩ : Shape) (⟨1, ![n]⟩ : Shape) [1] [0] [0] [] [] [])
    (prec : Option ContractPrecision) (a : FVec Ideal ⟨2, ![n, k]⟩ φ) (v : FVec Ideal ⟨1, ![k]⟩ φ) (i : Fin n) :
    Host.dotGeneral (⟨[1], [0], [0], [], [], [], w⟩ : DotDims _ _ _) prec a v (ix1 i) = ∑ c : Fin k, a (ix2 i c) * v (ix1 c) := by
  refine (Ideal.matmul_apply₁_of (K := k) _ (a := 1) rfl rfl a v (fun _ => 0) (ix1 i) (fun c => ix2 i c) (fun c => ix1 c) ?_ ?_).trans (zero_add _)
  · intro c
    funext ax
    match ax with
    | ⟨0, _⟩ => rfl
    | ⟨1, _⟩ => rfl
  · intro c
    funext ax
    match ax with
    | ⟨0, _⟩ => rfl

/-- A matrix times a matrix: entry `(i, j)` is the sum over the contracted axis of the products. -/
theorem matmul_apply {n k p : Nat} {φ : FTy} (w : DotDims.WF (⟨2, ![n, k]⟩ : Shape) (⟨2, ![k, p]⟩ : Shape) (⟨2, ![n, p]⟩ : Shape) [1] [0] [0] [1] [] [])
    (prec : Option ContractPrecision) (a : FVec Ideal ⟨2, ![n, k]⟩ φ) (b : FVec Ideal ⟨2, ![k, p]⟩ φ) (i : Fin n) (j : Fin p) :
    Host.dotGeneral (⟨[1], [0], [0], [1], [], [], w⟩ : DotDims _ _ _) prec a b (ix2 i j) = ∑ c : Fin k, a (ix2 i c) * b (ix2 c j) := by
  refine (Ideal.matmul_apply₁_of (K := k) _ (a := 1) rfl rfl a b (fun _ => 0) (ix2 i j) (fun c => ix2 i c) (fun c => ix2 c j) ?_ ?_).trans (zero_add _)
  · intro c
    funext ax
    match ax with
    | ⟨0, _⟩ => rfl
    | ⟨1, _⟩ => rfl
  · intro c
    funext ax
    match ax with
    | ⟨0, _⟩ => rfl
    | ⟨1, _⟩ => rfl

/-- The sums of a matrix's rows, from zero. -/
theorem rowSum_apply {n k : Nat} (x : FVec Ideal ⟨2, ![n, k]⟩ .f32) (h : (⟨2, ![n, k]⟩ : Shape).ReducesTo [1] ⟨1, ![n]⟩) (hu : 0 < (⟨0, ![]⟩ : Shape).numel)
    (i : Fin n) :
    Host.reduceAdd x (constant ⟨0, ![]⟩ .f32 0x00000000#32) h hu (ix1 i) = ∑ c : Fin k, x (ix2 i c) := by
  refine (Ideal.hostReduceAdd_r2_a1 h x (Ideal.ofBits .f32 0x00000000#32) (ix1 i)).trans ?_
  rw [Ideal.ofBits_zero_f32, zero_add]
  rfl

/-- A product of arrays of real numbers is an array of real numbers. -/
theorem isReal_dot {sl sr so : Shape} {φ : FTy} (d : DotDims sl sr so) (prec : Option ContractPrecision) (a : FVec Ideal sl φ) (b : FVec Ideal sr φ)
    (ha : ∀ i, IsReal (a i)) (hb : ∀ i, IsReal (b i)) (j : so.Idx) : IsReal (Host.dotGeneral d prec a b j) := by
  show IsReal (FloatOps.dotGeneral d prec _ a b j)
  rw [Ideal.dotGeneral_apply]
  exact IsReal.sum _ _ fun k _ => (ha _).mul (hb _)

end Cert.Gat

end
-- ==== Proof.Network.lean ====
/-
  The network of two attention layers and a mean over each graph's nodes, up to its last `tanh`, at the exact reading of the floats: as the kernel computes it
  (`kernelNet`) and as the reference does (`referenceNet`), and that the two agree wherever the inputs the scores and messages are made of are real numbers
  (`net_eq`).
-/
module

public import proofs.«01_k».proof.Proof.Gen.ReferenceIdeal
public import proofs.«01_k».proof.Proof.Layer
public import proofs.«01_k».proof.Proof.Products

@[expose] public section

set_option maxRecDepth 16384

noncomputable section

namespace Cert.Gat

open Idealize.ShloMosaic hiding ix0 ix1 ix2 eq_ix1 eq_ix2
open Idealize.ShloMosaic.ValueIdx Idealize.ShloMosaic.Routing
open Cert.KernelIdeal Cert.KernelIdeal.Facts₀

/-! ## The arrays a layer starts from -/

/-- The edges' source words: the first row of the edge index. -/
def sources (e : IVec S2x320000 32) : IVec S320000 32 :=
  shapeCast S320000 (extractStridedSlice S1x320000 ![0, 0] e slices_S2x320000_S1x320000_0_0) shapeCasts_S1x320000_S320000

/-- The edges' destination words: the second row of the edge index. -/
def destinations (e : IVec S2x320000 32) : IVec S320000 32 :=
  shapeCast S320000 (extractStridedSlice S1x320000 ![1, 0] e slices_S2x320000_S1x320000_1_0) shapeCasts_S1x320000_S320000

/-- The first layer's messages: the input features times the first weights. -/
def messages₁ (x : FVec Ideal S10000x128 .f32) (W : FVec Ideal S128x64 .f32) : FVec Ideal S10000x64 .f32 :=
  Host.dotGeneral dot_S10000x128_S128x64_S10000x64_1_0_0_1_n_n none x W

/-- The second layer's messages: the rectified first layer times the second weights. -/
def messages₂ (x : FVec Ideal S10000x64 .f32) (W : FVec Ideal S64x64 .f32) : FVec Ideal S10000x64 .f32 :=
  Host.dotGeneral dot_S10000x64_S64x64_S10000x64_1_0_0_1_n_n none x W

/-- The kernel's node scores: the messages times the attention vector. -/
def kernelNodeScore (h : FVec Ideal S10000x64 .f32) (a : FVec Ideal S64 .f32) : FVec Ideal S10000 .f32 :=
  Host.dotGeneral dot_S10000x64_S64_S10000_1_0_0_n_n_n none h a

/-- The reference's node scores: the sum of each message times the attention vector, entry by entry. -/
def referenceNodeScore (h : FVec Ideal S10000x64 .f32) (a : FVec Ideal S64 .f32) : FVec Ideal S10000 .f32 :=
  Host.reduceAdd (mulf h (broadcastInDim S10000x64 ![0, 1] bcast_S1x64_S10000x64_0_1 (broadcastInDim S1x64 ![1] bcast_S64_S1x64_1 a)))
    (constant S_ .f32 0x00000000#32) Cert.ReferenceIdeal.Facts₀.reducesTo_S10000x64_S10000_d1 h_S_

/-- The kernel's edge scores: the edge features times the weights' product with the attention vector. -/
def kernelEdgeScore (x : FVec Ideal S320000x15 .f32) (W : FVec Ideal S15x64 .f32) (a : FVec Ideal S64 .f32) : FVec Ideal S320000 .f32 :=
  Host.dotGeneral dot_S320000x15_S15_S320000_1_0_0_n_n_n none x (Host.dotGeneral dot_S15x64_S64_S15_1_0_0_n_n_n none W a)

/-- The reference's edge scores: the edge features times the weights, and the sum of that row times the attention vector, entry by entry. -/
def referenceEdgeScore (x : FVec Ideal S320000x15 .f32) (W : FVec Ideal S15x64 .f32) (a : FVec Ideal S64 .f32) : FVec Ideal S320000 .f32 :=
  Host.reduceAdd (mulf (Host.dotGeneral Cert.ReferenceIdeal.dot_S320000x15_S15x64_S320000x64_1_0_0_1_n_n none x W)
      (broadcastInDim S320000x64 ![0, 1] Cert.ReferenceIdeal.Facts₀.bcast_S1x64_S320000x64_0_1 (broadcastInDim S1x64 ![1] bcast_S64_S1x64_1 a)))
    (constant S_ .f32 0x00000000#32) Cert.ReferenceIdeal.Facts₀.reducesTo_S320000x64_S320000_d1 h_S_

/-! ## One layer from its messages and scores -/

/-- The kernel's layer from its messages and its three scores. -/
def kernelGat (h : FVec Ideal S10000x64 .f32) (sa da : FVec Ideal S10000 .f32) (ea : FVec Ideal S320000 .f32) (src dst : IVec S320000 32)
    (b : FVec Ideal S64 .f32) : FVec Ideal S10000x64 .f32 :=
  kernelLayer h (kernelWeights (leaky (score sa da ea src dst)) (shift sa da ea)) src dst b

/-- The reference's numbers per node: the greatest score among the node's incoming edges, `-∞` where there is none. -/
def greatest (α : FVec Ideal S320000 .f32) (dst : IVec S320000 32) : FVec Ideal S10000 .f32 :=
  Host.reduce FloatOps.maximumf
    (select (cmpi .eq
        (broadcastInDim Cert.ReferenceIdeal.S10000x320000 ![0, 1] Cert.ReferenceIdeal.Facts₀.bcast_S1x320000_S10000x320000_0_1
          (broadcastInDim Cert.ReferenceIdeal.S1x320000 ![1] Cert.ReferenceIdeal.Facts₀.bcast_S320000_S1x320000_1 dst))
        (broadcastInDim Cert.ReferenceIdeal.S10000x320000 ![0, 1] Cert.ReferenceIdeal.Facts₀.bcast_S10000x1_S10000x320000_0_1
          (broadcastInDim S10000x1 ![0] bcast_S10000_S10000x1_0 (iotaInDim S10000 32 0))))
      (broadcastInDim Cert.ReferenceIdeal.S10000x320000 ![0, 1] Cert.ReferenceIdeal.Facts₀.bcast_S1x320000_S10000x320000_0_1
        (broadcastInDim Cert.ReferenceIdeal.S1x320000 ![1] Cert.ReferenceIdeal.Facts₀.bcast_S320000_S1x320000_1 α))
      (broadcastInDim Cert.ReferenceIdeal.S10000x320000 ![] Cert.ReferenceIdeal.Facts₀.bcast_S_S10000x320000 (constant S_ .f32 0xFF800000#32)))
    (constant S_ .f32 0xFF800000#32) Cert.ReferenceIdeal.Facts₀.reducesTo_S10000x320000_S10000_d1 h_S_

/-- The reference's layer from its messages and its scores `α`. -/
def referenceGat (h : FVec Ideal S10000x64 .f32) (α : FVec Ideal S320000 .f32) (src dst : IVec S320000 32)
    (b : FVec Ideal S64 .f32) : FVec Ideal S10000x64 .f32 :=
  referenceLayer h (referenceWeights α (greatest α dst) dst) src dst b

/-! ## The mean over each graph's nodes, and the last linear map -/

/-- One where the node belongs to the graph, zero elsewhere: graphs by nodes. -/
def oneHot (batch : IVec S10000 32) : FVec Ideal S64x10000 .f32 :=
  uitofp .f32 (cmpi .eq (broadcastInDim S64x10000 ![0, 1] bcast_S1x10000_S64x10000_0_1 (broadcastInDim S1x10000 ![1] bcast_S10000_S1x10000_1 batch))
    (broadcastInDim S64x10000 ![0, 1] bcast_S64x1_S64x10000_0_1 (broadcastInDim S64x1 ![0] bcast_S64_S64x1_0 (iotaInDim S64 32 0))))

/-- The kernel's sums over each graph's nodes: a product with the one-hot matrix. -/
def kernelSums (x : FVec Ideal S10000x64 .f32) (batch : IVec S10000 32) : FVec Ideal S64x64 .f32 :=
  Host.dotGeneral dot_S64x10000_S10000x64_S64x64_1_0_0_1_n_n none (oneHot batch) x

/-- The kernel's numbers of nodes of each graph: the one-hot matrix's row sums. -/
def kernelCounts (batch : IVec S10000 32) : FVec Ideal S64 .f32 :=
  Host.reduceAdd (oneHot batch) (constant S_ .f32 0x00000000#32) reducesTo_S64x10000_S64_d1 h_S_

/-- The reference's sums over each graph's nodes: the rows scattered onto their graphs and added up. -/
def referenceSums (x : FVec Ideal S10000x64 .f32) (batch : IVec S10000 32) : FVec Ideal S64x64 .f32 :=
  Host.scatterAdd Cert.ReferenceIdeal.scatter_S64x64_S10000x1_S10000x64_1_0_0_1
    (broadcastInDim S64x64 ![] Cert.ReferenceIdeal.Facts₀.bcast_S_S64x64 (constant S_ .f32 0x00000000#32)) (broadcastInDim S10000x1 ![0] bcast_S10000_S10000x1_0 batch) x

/-- The reference's numbers of nodes of each graph: ones scattered onto the graphs and added up. -/
def referenceCounts (batch : IVec S10000 32) : FVec Ideal S64 .f32 :=
  Host.scatterAdd Cert.ReferenceIdeal.scatter_S64_S10000x1_S10000_n_0_0_1
    (broadcastInDim S64 ![] bcast_S_S64 (constant S_ .f32 0x00000000#32)) (broadcastInDim S10000x1 ![0] bcast_S10000_S10000x1_0 batch)
    (broadcastInDim S10000 ![] bcast_S_S10000 (constant S_ .f32 0x3F800000#32))

/-- The means, from the sums and the numbers of nodes, times the last weights, plus the last bias. -/
def head (sums : FVec Ideal S64x64 .f32) (counts : FVec Ideal S64 .f32) (Wl : FVec Ideal S64x1 .f32) (bl : FVec Ideal S1 .f32) : FVec Ideal S64x1 .f32 :=
  addf (Host.dotGeneral dot_S64x64_S64x1_S64x1_1_0_0_1_n_n none
      (Host.divf sums (broadcastInDim S64x64 ![0, 1] bcast_S64x1_S64x64_0_1 (broadcastInDim S64x1 ![0] bcast_S64_S64x1_0
        (maximumf counts (broadcastInDim S64 ![] bcast_S_S64 (constant S_ .f32 0x3F800000#32)))))) Wl)
    (broadcastInDim S64x1 ![0, 1] bcast_S1x1_S64x1_0_1 (broadcastInDim S1x1 ![1] bcast_S1_S1x1_1 bl))

/-! ## The network -/

/-- The arrays the network is a function of. -/
structure Inputs where
  x : FVec Ideal S10000x128 .f32
  edges : IVec S2x320000 32
  edgeFeatures : FVec Ideal S320000x15 .f32
  batch : IVec S10000 32
  W₁ : FVec Ideal S128x64 .f32
  src₁ : FVec Ideal S64 .f32
  dst₁ : FVec Ideal S64 .f32
  We₁ : FVec Ideal S15x64 .f32
  edge₁ : FVec Ideal S64 .f32
  b₁ : FVec Ideal S64 .f32
  W₂ : FVec Ideal S64x64 .f32
  src₂ : FVec Ideal S64 .f32
  dst₂ : FVec Ideal S64 .f32
  We₂ : FVec Ideal S15x64 .f32
  edge₂ : FVec Ideal S64 .f32
  b₂ : FVec Ideal S64 .f32
  Wl : FVec Ideal S64x1 .f32
  bl : FVec Ideal S1 .f32

variable (I : Inputs)

/-- The kernel's second messages, which its first layer's output is. -/
def kernelMessages₂ : FVec Ideal S10000x64 .f32 :=
  messages₂ (rectify (kernelGat (messages₁ I.x I.W₁) (kernelNodeScore (messages₁ I.x I.W₁) I.src₁) (kernelNodeScore (messages₁ I.x I.W₁) I.dst₁)
    (kernelEdgeScore I.edgeFeatures I.We₁ I.edge₁) (sources I.edges) (destinations I.edges) I.b₁)) I.W₂

/-- The kernel's network, up to its `tanh`. -/
def kernelNet : FVec Ideal S64x1 .f32 :=
  head (kernelSums (kernelGat (kernelMessages₂ I) (kernelNodeScore (kernelMessages₂ I) I.src₂) (kernelNodeScore (kernelMessages₂ I) I.dst₂)
      (kernelEdgeScore I.edgeFeatures I.We₂ I.edge₂) (sources I.edges) (destinations I.edges) I.b₂) I.batch) (kernelCounts I.batch) I.Wl I.bl

/-- The reference's scores of a layer, from its messages. -/
def referenceScores (h : FVec Ideal S10000x64 .f32) (src dst : FVec Ideal S64 .f32) (We : FVec Ideal S15x64 .f32) (edge : FVec Ideal S64 .f32) :
    FVec Ideal S320000 .f32 :=
  leaky (score (referenceNodeScore h src) (referenceNodeScore h dst) (referenceEdgeScore I.edgeFeatures We edge) (sources I.edges) (destinations I.edges))

/-- The reference's second messages, which its first layer's output is. -/
def referenceMessages₂ : FVec Ideal S10000x64 .f32 :=
  messages₂ (rectify (referenceGat (messages₁ I.x I.W₁) (referenceScores I (messages₁ I.x I.W₁) I.src₁ I.dst₁ I.We₁ I.edge₁)
    (sources I.edges) (destinations I.edges) I.b₁)) I.W₂

/-- The reference's network, up to its `tanh`. -/
def referenceNet : FVec Ideal S64x1 .f32 :=
  head (referenceSums (referenceGat (referenceMessages₂ I) (referenceScores I (referenceMessages₂ I) I.src₂ I.dst₂ I.We₂ I.edge₂)
      (sources I.edges) (destinations I.edges) I.b₂) I.batch) (referenceCounts I.batch) I.Wl I.bl

end Cert.Gat

end
-- ==== Proof.Agree.lean ====
/-
  The kernel's network and the reference's are one function of inputs whose scores and messages are real numbers (`net_eq`): layer by layer the scores agree,
  then the layers (`layer_eq`), and after the layers the sums over each graph's nodes, which agree for any values.
-/
module

public import proofs.«01_k».proof.Proof.Network

@[expose] public section

set_option maxRecDepth 16384

noncomputable section

namespace Cert.Gat

open Idealize.ShloMosaic hiding ix0 ix1 ix2 eq_ix1 eq_ix2
open Idealize.ShloMosaic.ValueIdx Idealize.ShloMosaic.Routing
open Cert.KernelIdeal Cert.KernelIdeal.Facts₀

attribute [local irreducible] col wrap take takeRows total gathered addBias

/-! ## The scores -/

/-- The node scores agree: a product with a vector is the sum of the entrywise products. -/
theorem nodeScore_eq (h : FVec Ideal S10000x64 .f32) (a : FVec Ideal S64 .f32) : kernelNodeScore h a = referenceNodeScore h a := by
  funext i
  obtain ⟨n, rfl⟩ : ∃ n : Fin 10000, i = ix1 n := ⟨_, eq_ix1 i⟩
  refine (matvec_apply _ none h a n).trans (Eq.symm ?_)
  refine (rowSum_apply _ _ _ n).trans (Finset.sum_congr rfl fun c _ => ?_)
  exact congrArg (h (ix2 n c) * ·) (bcCols bcast_S64_S1x64_1 bcast_S1x64_S10000x64_0_1 a n c)

/-- The edge scores agree where the features, the weights and the attention vector are real numbers. -/
theorem edgeScore_eq (x : FVec Ideal S320000x15 .f32) (W : FVec Ideal S15x64 .f32) (a : FVec Ideal S64 .f32) (hx : ∀ i, IsReal (x i)) (hW : ∀ i, IsReal (W i))
    (ha : ∀ i, IsReal (a i)) : kernelEdgeScore x W a = referenceEdgeScore x W a := by
  funext i
  obtain ⟨e, rfl⟩ : ∃ e : Fin 320000, i = ix1 e := ⟨_, eq_ix1 i⟩
  refine (matvec_apply _ none x _ e).trans (Eq.symm ?_)
  refine (rowSum_apply _ _ _ e).trans ?_
  refine Eq.trans ?_ ((contract_assoc (fun k => x (ix2 e k)) (fun (k : Fin 15) (j : Fin 64) => W (ix2 k j)) (fun j => a (ix1 j))
    (fun k => hx _) (fun k j => hW _) (fun j => ha _)).trans ?_)
  · refine Finset.sum_congr rfl fun j _ => ?_
    refine congrArg₂ (· * ·) (matmul_apply _ none x W e j) ?_
    exact bcCols bcast_S64_S1x64_1 Cert.ReferenceIdeal.Facts₀.bcast_S1x64_S320000x64_0_1 a e j
  · refine Finset.sum_congr rfl fun k _ => ?_
    exact congrArg (x (ix2 e k) * ·) (matvec_apply _ none W a k).symm

theorem isReal_nodeScore (h : FVec Ideal S10000x64 .f32) (a : FVec Ideal S64 .f32) (hh : ∀ i, IsReal (h i)) (ha : ∀ i, IsReal (a i)) (i : S10000.Idx) :
    IsReal (kernelNodeScore h a i) :=
  isReal_dot _ _ h a hh ha i

theorem isReal_edgeScore (x : FVec Ideal S320000x15 .f32) (W : FVec Ideal S15x64 .f32) (a : FVec Ideal S64 .f32) (hx : ∀ i, IsReal (x i))
    (hW : ∀ i, IsReal (W i)) (ha : ∀ i, IsReal (a i)) (i : S320000.Idx) : IsReal (kernelEdgeScore x W a i) :=
  isReal_dot _ _ x _ hx (isReal_dot _ _ W a hW ha) i

/-! ## A layer -/

/-- A layer's output is the same in the kernel and in the reference, from messages, scores and attention vectors that are real numbers, and made of real numbers
    where the bias is. -/
theorem gat_eq (I : Inputs) (h : FVec Ideal S10000x64 .f32) (src dst : FVec Ideal S64 .f32) (We : FVec Ideal S15x64 .f32) (edge b : FVec Ideal S64 .f32)
    (hh : ∀ i, IsReal (h i)) (hf : ∀ i, IsReal (I.edgeFeatures i)) (hs : ∀ i, IsReal (src i)) (hd : ∀ i, IsReal (dst i)) (hW : ∀ i, IsReal (We i))
    (he : ∀ i, IsReal (edge i)) :
    kernelGat h (kernelNodeScore h src) (kernelNodeScore h dst) (kernelEdgeScore I.edgeFeatures We edge) (sources I.edges) (destinations I.edges) b
        = referenceGat h (referenceScores I h src dst We edge) (sources I.edges) (destinations I.edges) b
      ∧ ((∀ i, IsReal (b i)) → ∀ i, IsReal (referenceGat h (referenceScores I h src dst We edge) (sources I.edges) (destinations I.edges) b i)) := by
  have h1 := isReal_nodeScore h src hh hs
  have h2 := isReal_nodeScore h dst hh hd
  have h3 := isReal_edgeScore I.edgeFeatures We edge hf hW he
  unfold kernelGat referenceGat referenceScores
  rw [← nodeScore_eq, ← nodeScore_eq, ← edgeScore_eq _ _ _ hf hW he]
  exact layer_eq h _ _ _ _ _ b hh (isReal_leaky _ (isReal_score _ _ _ _ _ h1 h2 h3)) (isReal_shift _ _ _ h1 h2 h3 ix0)

theorem isReal_rectify (x : FVec Ideal S10000x64 .f32) (hx : ∀ i, IsReal (x i)) (i : S10000x64.Idx) : IsReal (rectify x i) := by
  show IsReal (max (x i) (Ideal.ofBits .f32 0x00000000#32))
  rw [Ideal.ofBits_zero_f32]
  exact (hx i).max IsReal.zero

/-! ## The sums over each graph's nodes -/

/-- The nodes of a graph: those whose word is the graph's number. -/
abbrev nodesOf (batch : IVec S10000 32) (g : Fin 64) : Finset (Fin 10000) := hits (broadcastInDim S10000x1 ![0] bcast_S10000_S10000x1_0 batch) g

theorem mem_nodesOf (batch : IVec S10000 32) (g : Fin 64) (n : Fin 10000) : n ∈ nodesOf batch g ↔ batch (ix1 n) = BitVec.ofNat 32 g.val := by
  have hb : broadcastInDim S10000x1 ![0] bcast_S10000_S10000x1_0 batch (ix2 n (0 : Fin 1)) = batch (ix1 n) := bcCol bcast_S10000_S10000x1_0 batch n
  have hg : (BitVec.ofNat 32 g.val).toInt = (g.val : Int) := by
    have := g.isLt
    rw [BitVec.toInt_eq_toNat_of_lt] <;> simp <;> omega
  unfold nodesOf hits
  rw [Finset.mem_filter, hb, ← hg]
  exact ⟨fun h => BitVec.eq_of_toInt_eq h.2, fun h => ⟨Finset.mem_univ _, by rw [h]⟩⟩

theorem oneHot_apply (batch : IVec S10000 32) (g : Fin 64) (n : Fin 10000) : oneHot batch (ix2 g n) = if n ∈ nodesOf batch g then 1 else 0 := by
  have h1 : broadcastInDim S64x10000 ![0, 1] bcast_S1x10000_S64x10000_0_1 (broadcastInDim S1x10000 ![1] bcast_S10000_S1x10000_1 batch) (ix2 g n) = batch (ix1 n) :=
    bcCols bcast_S10000_S1x10000_1 bcast_S1x10000_S64x10000_0_1 batch g n
  have h2 : broadcastInDim S64x10000 ![0, 1] bcast_S64x1_S64x10000_0_1 (broadcastInDim S64x1 ![0] bcast_S64_S64x1_0 (iotaInDim S64 32 0)) (ix2 g n)
      = BitVec.ofNat 32 g.val :=
    bcRows bcast_S64_S64x1_0 bcast_S64x1_S64x10000_0_1 (iotaInDim S64 32 0) g n
  refine (show oneHot batch (ix2 g n) = (((IntOp.cmpi .eq (batch (ix1 n)) (BitVec.ofNat 32 g.val)).toNat : ℝ) : EReal) from ?_).trans ?_
  · rw [← h1, ← h2]
    rfl
  · rw [WordCmp.cmpi_eq_eq]
    by_cases h : batch (ix1 n) = BitVec.ofNat 32 g.val
    · simp [h, (mem_nodesOf batch g n).2 h]
    · simp [h, (mem_nodesOf batch g n).not.2 h]

/-- The kernel's product with the one-hot matrix is the reference's scattered sums. -/
theorem sums_eq (x : FVec Ideal S10000x64 .f32) (batch : IVec S10000 32) : kernelSums x batch = referenceSums x batch := by
  funext i
  obtain ⟨g, f, rfl⟩ : ∃ (g : Fin 64) (f : Fin 64), i = ix2 g f := ⟨_, _, eq_ix2 i⟩
  refine (matmul_apply _ none (oneHot batch) x g f).trans (Eq.symm ?_)
  refine (scatterAdd_rows (φ := .f32) _ _ _ x g f).trans ?_
  show Ideal.ofBits .f32 0x00000000#32 + ∑ n ∈ nodesOf batch g, x (ix2 n f) = _
  rw [Ideal.ofBits_zero_f32, zero_add, ← Finset.sum_filter_add_sum_filter_not Finset.univ (fun n => n ∈ nodesOf batch g)]
  rw [Finset.sum_eq_zero (s := Finset.univ.filter fun n => n ∉ nodesOf batch g), add_zero, Finset.filter_univ_mem]
  · refine Finset.sum_congr rfl fun n hn => ?_
    rw [oneHot_apply, if_pos hn, one_mul]
  · intro n hn
    rw [oneHot_apply, if_neg (Finset.mem_filter.1 hn).2, zero_mul]

/-- The one-hot matrix's row sums are the reference's scattered ones. -/
theorem counts_eq (batch : IVec S10000 32) : kernelCounts batch = referenceCounts batch := by
  funext i
  obtain ⟨g, rfl⟩ : ∃ g : Fin 64, i = ix1 g := ⟨_, eq_ix1 i⟩
  refine (rowSum_apply (oneHot batch) _ _ g).trans (Eq.symm ?_)
  refine (scatterAdd_entries (φ := .f32) _ _ _ _ g).trans ?_
  show Ideal.ofBits .f32 0x00000000#32 + ∑ n ∈ nodesOf batch g, Ideal.ofBits .f32 0x3F800000#32 = _
  rw [Ideal.ofBits_zero_f32, Ideal.ofBits_one_f32, zero_add]
  simp only [oneHot_apply]
  rw [← Finset.sum_filter, Finset.filter_univ_mem]

/-! ## The network -/

/-- What `net_eq` asks of the inputs: every array the scores and the messages are made of holds real numbers. -/
structure Inputs.Real (I : Inputs) : Prop where
  x : ∀ i, IsReal (I.x i)
  edgeFeatures : ∀ i, IsReal (I.edgeFeatures i)
  W₁ : ∀ i, IsReal (I.W₁ i)
  src₁ : ∀ i, IsReal (I.src₁ i)
  dst₁ : ∀ i, IsReal (I.dst₁ i)
  We₁ : ∀ i, IsReal (I.We₁ i)
  edge₁ : ∀ i, IsReal (I.edge₁ i)
  b₁ : ∀ i, IsReal (I.b₁ i)
  W₂ : ∀ i, IsReal (I.W₂ i)
  src₂ : ∀ i, IsReal (I.src₂ i)
  dst₂ : ∀ i, IsReal (I.dst₂ i)
  We₂ : ∀ i, IsReal (I.We₂ i)
  edge₂ : ∀ i, IsReal (I.edge₂ i)

/-- The kernel's network is the reference's. -/
theorem net_eq (I : Inputs) (hI : I.Real) : kernelNet I = referenceNet I := by
  have hm : ∀ i, IsReal (messages₁ I.x I.W₁ i) := isReal_dot _ _ _ _ hI.x hI.W₁
  obtain ⟨h1, h1r⟩ := gat_eq I (messages₁ I.x I.W₁) I.src₁ I.dst₁ I.We₁ I.edge₁ I.b₁ hm hI.edgeFeatures hI.src₁ hI.dst₁ hI.We₁ hI.edge₁
  have hk : kernelMessages₂ I = referenceMessages₂ I := by
    unfold kernelMessages₂ referenceMessages₂
    rw [h1]
  have hr : ∀ i, IsReal (referenceMessages₂ I i) := isReal_dot _ _ _ _ (isReal_rectify _ (h1r hI.b₁)) hI.W₂
  obtain ⟨h2, -⟩ := gat_eq I (referenceMessages₂ I) I.src₂ I.dst₂ I.We₂ I.edge₂ I.b₂ hr hI.edgeFeatures hI.src₂ hI.dst₂ hI.We₂ hI.edge₂
  unfold kernelNet referenceNet
  rw [hk, h2, sums_eq, counts_eq]

end Cert.Gat

end
-- ==== Proof.Finite.lean ====
/-
  The precondition read: where the printed predicate `finite_inputs` holds, every entry of the arrays it tests is a real number (`finite_inputs_real`), and
  those are the arrays `Inputs.Real` asks about.
-/
module

public import proofs.«01_k».proof.Pre_finite_inputs
public import proofs.«01_k».proof.Proof.Agree
public import Idealize.ShloMosaic.Lib.ReduceAll

@[expose] public section

set_option maxRecDepth 16384

noncomputable section

namespace Cert.Gat

open Idealize.ShloMosaic hiding ix0 ix1 ix2 eq_ix1 eq_ix2
open Idealize.ShloMosaic.ValueIdx Idealize.ShloMosaic.Routing
open Cert.Pre_finite_inputs

/-- The shape facts the predicate's operations rest on. -/
theorem preFacts : Cert.Pre_finite_inputs.Facts where
  bcast_S_S10000x128 := by decide
  reducesTo_S10000x128_S_d0_1 := by decide
  h_S_ := by decide
  bcast_S_S320000x15 := by decide
  reducesTo_S320000x15_S_d0_1 := by decide
  bcast_S_S128x64 := by decide
  reducesTo_S128x64_S_d0_1 := by decide
  bcast_S_S64 := by decide
  reducesTo_S64_S_d0 := by decide
  bcast_S_S15x64 := by decide
  reducesTo_S15x64_S_d0_1 := by decide
  bcast_S_S64x64 := by decide
  reducesTo_S64x64_S_d0_1 := by decide

/-- One array's test: every entry's absolute value is below `+∞`. -/
def belowInf {s : Shape} {axes : List (Fin s.rank)} (x : FVec Ideal s .f32) (hb : S_.BroadcastsInDim s (![] : Fin 0 → Fin s.rank)) (hr : s.ReducesTo axes S_)
    (hu : 0 < S_.numel) : IVec S_ 1 :=
  Host.reduce IntOp.andi (cmpf .olt (Host.absf x) (broadcastInDim s ![] hb (constant S_ .f32 0x7F800000#32))) (constantI S_ 1 1#1) hr hu

/-- An array that passes its test is made of real numbers. -/
theorem isReal_of_belowInf {s : Shape} {axes : List (Fin s.rank)} (x : FVec Ideal s .f32) (hb : S_.BroadcastsInDim s (![] : Fin 0 → Fin s.rank))
    (hr : s.ReducesTo axes S_) (hu : 0 < S_.numel) (e : belowInf x hb hr hu ix0 = 1#1) (i : s.Idx) : IsReal (x i) := by
  haveI : Subsingleton S_.Idx := ⟨fun a b => funext fun k => k.elim0⟩
  have h : BitVec.ofBool (decide (max (x i) (-(x i)) < Ideal.ofBits .f32 0x7F800000#32)) = 1#1 := Host.reduce_andi_all _ _ hr hu ix0 e i
  rw [ofBits_inf_f32] at h
  refine IsReal.of_abs_lt ?_
  by_contra hn
  rw [decide_eq_false hn] at h
  exact absurd h (by decide)

/-- Where the predicate holds of a network's inputs, the arrays its scores and messages are made of are real numbers. -/
theorem finite_inputs_real [Cert.Pre_finite_inputs.Facts] (I : Inputs)
    (h : Cert.Pre_finite_inputs.fn (F := Ideal) I.x I.edges I.edgeFeatures I.batch I.W₁ I.src₁ I.dst₁ I.We₁ I.edge₁ I.b₁ I.W₂ I.src₂ I.dst₂ I.We₂ I.edge₂
      I.b₂ I.Wl I.bl = fun _ => 1#1) : I.Real := by
  have h0 := congrFun h ix0
  unfold Cert.Pre_finite_inputs.fn Cert.Pre_finite_inputs.fn_part1 Cert.Pre_finite_inputs.fn_part2 Cert.Pre_finite_inputs.fn_part3 at h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e2⟩ := IntOp.andi_eq_one.1 h0
  exact
    { x := isReal_of_belowInf _ _ _ _ e0
      edgeFeatures := isReal_of_belowInf _ _ _ _ e2
      W₁ := isReal_of_belowInf _ _ _ _ e4
      src₁ := isReal_of_belowInf _ _ _ _ e5
      dst₁ := isReal_of_belowInf _ _ _ _ e6
      We₁ := isReal_of_belowInf _ _ _ _ e7
      edge₁ := isReal_of_belowInf _ _ _ _ e8
      b₁ := isReal_of_belowInf _ _ _ _ e9
      W₂ := isReal_of_belowInf _ _ _ _ e10
      src₂ := isReal_of_belowInf _ _ _ _ e11
      dst₂ := isReal_of_belowInf _ _ _ _ e12
      We₂ := isReal_of_belowInf _ _ _ _ e13
      edge₂ := isReal_of_belowInf _ _ _ _ e14 }

end Cert.Gat

end
-- ==== Proof.Stretches.lean ====
/-
  What the kernel's program has computed when its last `tanh` starts: the network `kernelNet` of the arguments (`after_main`), read off the list of whole-array
  operations in four stretches, each for any contents it starts from.
-/
module

public import proofs.«01_k».proof.Proof.Network
public import proofs.«01_k».proof.Proof.Gen.KernelIdeal.Launch
public import Idealize.ShloMosaic.Lib.StableHlo.RunRead

@[expose] public section

set_option maxRecDepth 16384

noncomputable section

namespace Cert.Gat

open Idealize.ShloMosaic hiding ix0 ix1 ix2 eq_ix1 eq_ix2
open Idealize.ShloMosaic.ValueIdx Idealize.ShloMosaic.Routing
open Idealize.ShloMosaic.StableHlo
open Cert.KernelIdeal Cert.KernelIdeal.Facts₀ Cert.KernelIdeal.Gen

variable (V : Valuation τ sig (Elt Ideal))

/-- Over exact values a product does not depend on the precision asked for. -/
theorem dot_precision {sl sr so : Shape} (d : DotDims sl sr so) (p : ContractPrecision) (a : FVec Ideal sl .f32) (b : FVec Ideal sr .f32) :
    Host.dotGeneral d (some p) a b = Host.dotGeneral d none a b := rfl

/-- The first layer's messages and scores. -/
abbrev opsA : List (HloOp τ sig (Elt Ideal)) := hostOps0 ++ hostOps0_1

/-- The rest of the first layer. -/
abbrev opsB : List (HloOp τ sig (Elt Ideal)) := hostOps0_2 ++ (hostOps0_3 ++ (hostOps0_4 ++ hostOps0_5))

/-- The second layer's messages and scores. -/
abbrev opsC : List (HloOp τ sig (Elt Ideal)) := hostOps0_6 ++ hostOps0_7

/-- The rest of the second layer, and the mean over each graph's nodes. -/
abbrev opsD : List (HloOp τ sig (Elt Ideal)) := hostOps0_8 ++ (hostOps0_9 ++ hostOps0_10)

theorem A_sources : after opsA V (Proc.devRef .tc main_v1) = sources (V (Proc.devRef .tc main_arg1)) := by
  after_reads_simp
  rfl

theorem A_destinations : after opsA V (Proc.devRef .tc main_v3) = destinations (V (Proc.devRef .tc main_arg1)) := by
  after_reads_simp
  rfl

theorem A_edgeScore₂ : after opsA V (Proc.devRef .tc main_v7)
    = kernelEdgeScore (V (Proc.devRef .tc main_arg2)) (V (Proc.devRef .tc main_arg13)) (V (Proc.devRef .tc main_arg14)) := by
  after_reads_simp
  rfl

theorem A_messages : after opsA V (Proc.devRef .tc main_v8) = messages₁ (V (Proc.devRef .tc main_arg0)) (V (Proc.devRef .tc main_arg4)) := by
  after_reads_simp
  rfl

theorem A_shift : after opsA V (Proc.devRef .tc main_v16)
    = shift (kernelNodeScore (messages₁ (V (Proc.devRef .tc main_arg0)) (V (Proc.devRef .tc main_arg4))) (V (Proc.devRef .tc main_arg5)))
        (kernelNodeScore (messages₁ (V (Proc.devRef .tc main_arg0)) (V (Proc.devRef .tc main_arg4))) (V (Proc.devRef .tc main_arg6)))
        (kernelEdgeScore (V (Proc.devRef .tc main_arg2)) (V (Proc.devRef .tc main_arg7)) (V (Proc.devRef .tc main_arg8))) := by
  after_reads_simp
  rfl

theorem A_scores : after opsA V (Proc.devRef .tc main_v37)
    = leaky (score (kernelNodeScore (messages₁ (V (Proc.devRef .tc main_arg0)) (V (Proc.devRef .tc main_arg4))) (V (Proc.devRef .tc main_arg5)))
        (kernelNodeScore (messages₁ (V (Proc.devRef .tc main_arg0)) (V (Proc.devRef .tc main_arg4))) (V (Proc.devRef .tc main_arg6)))
        (kernelEdgeScore (V (Proc.devRef .tc main_arg2)) (V (Proc.devRef .tc main_arg7)) (V (Proc.devRef .tc main_arg8)))
        (sources (V (Proc.devRef .tc main_arg1))) (destinations (V (Proc.devRef .tc main_arg1)))) := by
  after_reads_simp
  rfl

theorem B_layer : after opsB V (Proc.devRef .tc main_v66)
    = rectify (kernelLayer (V (Proc.devRef .tc main_v8)) (kernelWeights (V (Proc.devRef .tc main_v37)) (V (Proc.devRef .tc main_v16)))
        (V (Proc.devRef .tc main_v1)) (V (Proc.devRef .tc main_v3)) (V (Proc.devRef .tc main_arg9))) := by
  after_reads_simp
  simp -implicitDefEqProofs only [TRef.toBuf, TRef.ofBuf, cast_cast, cast_eq]
  unfold rectify kernelLayer addBias
  refine congrArg₂ maximumf (congrArg₂ addf (congrArg₂ Host.divf ?_ ?_) ?_) ?_
  · rfl
  · rfl
  · rfl
  · rfl

theorem C_messages : after opsC V (Proc.devRef .tc main_v67) = messages₂ (V (Proc.devRef .tc main_v66)) (V (Proc.devRef .tc main_arg10)) := by
  after_reads_simp
  rfl

theorem C_shift : after opsC V (Proc.devRef .tc main_v75)
    = shift (kernelNodeScore (messages₂ (V (Proc.devRef .tc main_v66)) (V (Proc.devRef .tc main_arg10))) (V (Proc.devRef .tc main_arg11)))
        (kernelNodeScore (messages₂ (V (Proc.devRef .tc main_v66)) (V (Proc.devRef .tc main_arg10))) (V (Proc.devRef .tc main_arg12)))
        (V (Proc.devRef .tc main_v7)) := by
  after_reads_simp
  rfl

theorem C_scores : after opsC V (Proc.devRef .tc main_v96)
    = leaky (score (kernelNodeScore (messages₂ (V (Proc.devRef .tc main_v66)) (V (Proc.devRef .tc main_arg10))) (V (Proc.devRef .tc main_arg11)))
        (kernelNodeScore (messages₂ (V (Proc.devRef .tc main_v66)) (V (Proc.devRef .tc main_arg10))) (V (Proc.devRef .tc main_arg12)))
        (V (Proc.devRef .tc main_v7)) (V (Proc.devRef .tc main_v1)) (V (Proc.devRef .tc main_v3))) := by
  after_reads_simp
  rfl

theorem D_head : after opsD V (Proc.devRef .tc main_v142)
    = head (kernelSums (kernelLayer (V (Proc.devRef .tc main_v67)) (kernelWeights (V (Proc.devRef .tc main_v96)) (V (Proc.devRef .tc main_v75)))
        (V (Proc.devRef .tc main_v1)) (V (Proc.devRef .tc main_v3)) (V (Proc.devRef .tc main_arg15))) (V (Proc.devRef .tc main_arg3)))
      (kernelCounts (V (Proc.devRef .tc main_arg3))) (V (Proc.devRef .tc main_arg16)) (V (Proc.devRef .tc main_arg17)) := by
  after_reads_simp
  simp -implicitDefEqProofs only [TRef.toBuf, TRef.ofBuf, cast_cast, cast_eq]
  simp only [dot_precision]
  unfold head
  refine congrArg₂ addf (congrArg₂ (Host.dotGeneral _ none) (congrArg₂ Host.divf ?_ ?_) ?_) ?_
  · unfold kernelSums kernelLayer addBias
    refine congrArg₂ (Host.dotGeneral _ none) ?_ (congrArg₂ addf (congrArg₂ Host.divf ?_ ?_) ?_) <;> rfl
  all_goals rfl

/-- The first stretch leaves the later stretches' arguments as they are. -/
theorem A_keeps : after opsA V (Proc.devRef .tc main_arg3) = V (Proc.devRef .tc main_arg3)
      ∧ after opsA V (Proc.devRef .tc main_arg9) = V (Proc.devRef .tc main_arg9)
      ∧ after opsA V (Proc.devRef .tc main_arg10) = V (Proc.devRef .tc main_arg10)
      ∧ after opsA V (Proc.devRef .tc main_arg11) = V (Proc.devRef .tc main_arg11)
      ∧ after opsA V (Proc.devRef .tc main_arg12) = V (Proc.devRef .tc main_arg12)
      ∧ after opsA V (Proc.devRef .tc main_arg15) = V (Proc.devRef .tc main_arg15)
      ∧ after opsA V (Proc.devRef .tc main_arg16) = V (Proc.devRef .tc main_arg16)
      ∧ after opsA V (Proc.devRef .tc main_arg17) = V (Proc.devRef .tc main_arg17) := by
  refine ⟨?_, ?_, ?_, ?_, ?_, ?_, ?_, ?_⟩ <;> after_reads_simp

/-- The second stretch leaves what the later ones read as it is. -/
theorem B_keeps : after opsB V (Proc.devRef .tc main_v1) = V (Proc.devRef .tc main_v1)
      ∧ after opsB V (Proc.devRef .tc main_v3) = V (Proc.devRef .tc main_v3)
      ∧ after opsB V (Proc.devRef .tc main_v7) = V (Proc.devRef .tc main_v7)
      ∧ after opsB V (Proc.devRef .tc main_arg3) = V (Proc.devRef .tc main_arg3)
      ∧ after opsB V (Proc.devRef .tc main_arg10) = V (Proc.devRef .tc main_arg10)
      ∧ after opsB V (Proc.devRef .tc main_arg11) = V (Proc.devRef .tc main_arg11)
      ∧ after opsB V (Proc.devRef .tc main_arg12) = V (Proc.devRef .tc main_arg12)
      ∧ after opsB V (Proc.devRef .tc main_arg15) = V (Proc.devRef .tc main_arg15)
      ∧ after opsB V (Proc.devRef .tc main_arg16) = V (Proc.devRef .tc main_arg16)
      ∧ after opsB V (Proc.devRef .tc main_arg17) = V (Proc.devRef .tc main_arg17) := by
  refine ⟨?_, ?_, ?_, ?_, ?_, ?_, ?_, ?_, ?_, ?_⟩ <;> after_reads_simp

/-- The third stretch leaves what the last one reads as it is. -/
theorem C_keeps : after opsC V (Proc.devRef .tc main_v1) = V (Proc.devRef .tc main_v1)
      ∧ after opsC V (Proc.devRef .tc main_v3) = V (Proc.devRef .tc main_v3)
      ∧ after opsC V (Proc.devRef .tc main_arg3) = V (Proc.devRef .tc main_arg3)
      ∧ after opsC V (Proc.devRef .tc main_arg15) = V (Proc.devRef .tc main_arg15)
      ∧ after opsC V (Proc.devRef .tc main_arg16) = V (Proc.devRef .tc main_arg16)
      ∧ after opsC V (Proc.devRef .tc main_arg17) = V (Proc.devRef .tc main_arg17) := by
  refine ⟨?_, ?_, ?_, ?_, ?_, ?_⟩ <;> after_reads_simp

/-- All the operations before the `tanh`, one stretch after the other. -/
theorem after_main : after (List.flatten [hostOps0, hostOps0_1, hostOps0_2, hostOps0_3, hostOps0_4, hostOps0_5, hostOps0_6, hostOps0_7, hostOps0_8, hostOps0_9,
      hostOps0_10]) V (Proc.devRef .tc main_v142)
    = kernelNet ⟨V (Proc.devRef .tc main_arg0), V (Proc.devRef .tc main_arg1), V (Proc.devRef .tc main_arg2), V (Proc.devRef .tc main_arg3),
        V (Proc.devRef .tc main_arg4), V (Proc.devRef .tc main_arg5), V (Proc.devRef .tc main_arg6), V (Proc.devRef .tc main_arg7), V (Proc.devRef .tc main_arg8),
        V (Proc.devRef .tc main_arg9), V (Proc.devRef .tc main_arg10), V (Proc.devRef .tc main_arg11), V (Proc.devRef .tc main_arg12),
        V (Proc.devRef .tc main_arg13), V (Proc.devRef .tc main_arg14), V (Proc.devRef .tc main_arg15), V (Proc.devRef .tc main_arg16),
        V (Proc.devRef .tc main_arg17)⟩ := by
  have hsplit : List.flatten [hostOps0, hostOps0_1, hostOps0_2, hostOps0_3, hostOps0_4, hostOps0_5, hostOps0_6, hostOps0_7, hostOps0_8, hostOps0_9, hostOps0_10]
      = opsA ++ (opsB ++ (opsC ++ opsD)) := by
    simp only [opsA, opsB, opsC, opsD, List.flatten_cons, List.flatten_nil, List.append_nil, List.append_assoc]
  rw [hsplit, after_append, after_append, after_append, D_head, C_scores, C_shift, C_messages, B_layer]
  obtain ⟨c0, c1, c2, c3, c4, c5⟩ := C_keeps (after opsB (after opsA V))
  obtain ⟨b0, b1, b2, b3, b4, b5, b6, b7, b8, b9⟩ := B_keeps (after opsA V)
  obtain ⟨a0, a1, a2, a3, a4, a5, a6, a7⟩ := A_keeps V
  rw [c0, c1, c2, c3, c4, c5, b0, b1, b2, b3, b4, b5, b6, b7, b8, b9,
    a0, a1, a2, a3, a4, a5, a6, a7,
    A_sources, A_destinations, A_edgeScore₂, A_messages, A_shift, A_scores]
  rfl

end Cert.Gat

end
-- ==== Proof.KernelRun.lean ====
/-
  The kernel's result array after its last call: the `tanh` of the network of the arguments (`result_eq`). The one block its last call works on is the whole
  array, so what is written back is the `tanh` of the whole array it starts from.
-/
module

public import proofs.«01_k».proof.Proof.Stretches
public import proofs.«01_k».proof.Proof.Gen.KernelIdeal.Value

@[expose] public section

set_option maxRecDepth 16384

noncomputable section

namespace Cert.Gat

open Idealize.ShloMosaic hiding ix0 ix1 ix2 eq_ix1 eq_ix2
open Idealize.ShloMosaic.ValueIdx Idealize.ShloMosaic.Routing
open Idealize.ShloMosaic.TcCoe Idealize.SL.Sem
open Cert.KernelIdeal Cert.KernelIdeal.Gen

variable (m : (ℓ : Loc nD τ sig) → Buf (Elt Ideal) ℓ) (ρ : Dev nD → PrngReg)

/-- The argument arrays as device `c` holds them at the start. -/
def kernelInputs (c : Dev nD) : Inputs :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13), m ((c.tc : Thread nD τ).loc main_arg14),
    m ((c.tc : Thread nD τ).loc main_arg15), m ((c.tc : Thread nD τ).loc main_arg16), m ((c.tc : Thread nD τ).loc main_arg17)⟩

/-- What the last call starts from is the network of the arguments. -/
theorem before_call (c : Dev nD) : V m c main_v142 = kernelNet (kernelInputs m c) :=
  after_main fun b => m (c, b)

/-- The `tanh` of every entry of the array the last call starts from. -/
abbrev squashed (c : Dev nD) : Buf (Elt Ideal) ((c.tc : Thread nD τ).loc main_v143) :=
  Host.tanh (F := Ideal) (s := S64x1) (φ := .f32) (V m c main_v142)

/-- The block's offsets are zero. -/
theorem offsets_zero : (![0, 0] : Fin 2 → Nat) = fun _ => 0 := List.ofFn_injective rfl

/-- What the body stores is the `tanh` of what it loads. -/
theorem stored (v : Vec Ideal S64x1 .f32) : k0_pay1 v = Host.tanh (F := Ideal) (s := S64x1) (φ := .f32) v := by
  rw [Cert.KernelIdeal.Value.lay1_0_eq, shapeCast_self]
  rfl

/-- What a point writes back is its block of the `tanh` of the whole array. -/
theorem written_back (c : Dev nD) (t : Fin cfg0.N) :
    (dats m 0 c).flushed 1 t = (win0_1.blk t).view.read (Elt Ideal) (squashed m c) := by
  rw [Cert.KernelIdeal.Value.flushed1, out0_1, View.canon_unit_zero offsets_zero, View.ld_unit_zero offsets_zero, stored]
  rfl

/-- Every index of the result is in the one point's block, which is written back. -/
theorem covered (i : S64x1.Idx) : ∃ t : Fin cfg0.N, (cfg0.win 1).flush t = true ∧ i ∈ ((cfg0.win 1).blk t).view.set := by
  have ht : 0 < cfg0.N := Nat.lt_of_lt_of_eq Nat.one_pos N_0.symm
  refine ⟨⟨0, ht⟩, flush0_1 _, ?_⟩
  show i ∈ ((View.whole main_v143).slice (win0_1.rect ⟨0, ht⟩)).set
  rw [View.set_slice_whole, Rect.mem_set_unit]
  have e : ∀ (t : Fin grid0.N) (a : Fin 2), win0_1.index t a * win0_1.size a = 0 ∧ win0_1.xsize (grid0.coords t) a = S64x1.size a := by decide +kernel
  intro a
  have ha := e ⟨0, ht⟩ a
  have hi : (i a : Nat) < S64x1.size a := (i a).isLt
  show win0_1.index ⟨0, ht⟩ a * win0_1.size a ≤ (i a : Nat)
    ∧ (i a : Nat) < win0_1.index ⟨0, ht⟩ a * win0_1.size a + win0_1.xsize (grid0.coords ⟨0, ht⟩) a
  rw [ha.1, ha.2]
  exact ⟨Nat.zero_le _, by omega⟩

/-- The result array after the last call: the `tanh` of the network of the arguments. -/
theorem result_eq (c : Dev nD) : (dats m 0 c).arrAt 1 cfg0.N = Host.tanh (F := Ideal) (s := S64x1) (φ := .f32) (kernelNet (kernelInputs m c)) :=
  ((dats m 0 c).arrAt_eq_of_cover 1 (squashed m c) (fun t _ => written_back m c t) covered).trans
    (congrArg (Host.tanh (F := Ideal) (s := S64x1) (φ := .f32)) (before_call m c))

end Cert.Gat

end
-- ==== Proof.RefRun.lean ====
/-
  The reference's run: its result array ends holding the `tanh` of the reference's network of the arguments (`reference_run`). The generated run names the values
  used more than once; each is shown to be the network's array of that place.
-/
module

public import proofs.«01_k».proof.Proof.Network
public import proofs.«01_k».proof.Proof.Gen.KernelIdeal
public import proofs.«01_k».proof.Proof.Gen.ReferenceIdeal.Run

@[expose] public section

set_option maxRecDepth 16384

noncomputable section

namespace Cert.Gat

open Idealize.ShloMosaic hiding ix0 ix1 ix2 eq_ix1 eq_ix2
open Idealize.ShloMosaic.ValueIdx Idealize.ShloMosaic.Routing
open Idealize.ShloMosaic.StableHlo Idealize.SL.Sem
open Cert.ReferenceIdeal Cert.ReferenceIdeal.Value

variable (V : Valuation τ sig (Elt Ideal))

/-- The argument arrays of a run's contents. -/
def inputsOf : Inputs :=
  ⟨V (Proc.devRef .tc main_arg0), V (Proc.devRef .tc main_arg1), V (Proc.devRef .tc main_arg2), V (Proc.devRef .tc main_arg3),
    V (Proc.devRef .tc main_arg4), V (Proc.devRef .tc main_arg5), V (Proc.devRef .tc main_arg6), V (Proc.devRef .tc main_arg7), V (Proc.devRef .tc main_arg8),
    V (Proc.devRef .tc main_arg9), V (Proc.devRef .tc main_arg10), V (Proc.devRef .tc main_arg11), V (Proc.devRef .tc main_arg12),
    V (Proc.devRef .tc main_arg13), V (Proc.devRef .tc main_arg14), V (Proc.devRef .tc main_arg15), V (Proc.devRef .tc main_arg16),
    V (Proc.devRef .tc main_arg17)⟩

/-- The edges' source words. -/
theorem ref_sources : res_main_v1 V = sources (inputsOf V).edges := rfl

/-- The edges' destination words. -/
theorem ref_destinations : res_main_v3 V = destinations (inputsOf V).edges := rfl

/-- The first layer's messages. -/
theorem ref_messages₁ : res_main_v4 V = messages₁ (inputsOf V).x (inputsOf V).W₁ := rfl

/-- The first layer's scores before the leaky rectifier. -/
theorem ref_raw₁ : res_main_v33 V = score (referenceNodeScore (res_main_v4 V) (inputsOf V).src₁) (referenceNodeScore (res_main_v4 V) (inputsOf V).dst₁)
    (referenceEdgeScore (inputsOf V).edgeFeatures (inputsOf V).We₁ (inputsOf V).edge₁) (res_main_v1 V) (res_main_v3 V) := by
  unfold res_main_v33 score
  refine congrArg₂ addf (congrArg₂ addf ?_ ?_) ?_ <;> rfl

/-- The first layer's scores. -/
theorem ref_scores₁ : res_main_v34 V = referenceScores (inputsOf V) (messages₁ (inputsOf V).x (inputsOf V).W₁) (inputsOf V).src₁ (inputsOf V).dst₁
    (inputsOf V).We₁ (inputsOf V).edge₁ := by
  have h : res_main_v34 V = leaky (res_main_v33 V) := rfl
  rw [h, ref_raw₁, ref_messages₁, ref_sources, ref_destinations]
  rfl

/-- The first layer's greatest scores per node. -/
theorem ref_greatest₁ : res_main_v43 V = greatest (res_main_v34 V) (res_main_v3 V) := rfl

/-- The first layer's unnormalized weights. -/
theorem ref_weights₁ : res_main_v56 V = referenceWeights (res_main_v34 V) (greatest (res_main_v34 V) (res_main_v3 V)) (res_main_v3 V) := by
  rw [← ref_greatest₁]
  unfold res_main_v56 referenceWeights
  refine congrArg Host.exp (congrArg₂ subf rfl ?_)
  rfl

/-- The second layer's messages. -/
theorem ref_messages₂ : res_main_v85 V = referenceMessages₂ (inputsOf V) := by
  have h : res_main_v85 V = messages₂ (rectify (referenceLayer (res_main_v4 V) (res_main_v56 V) (res_main_v1 V) (res_main_v3 V) (inputsOf V).b₁))
      (inputsOf V).W₂ := by
    unfold res_main_v85 messages₂ rectify referenceLayer addBias gathered
    refine congrArg₂ (Host.dotGeneral _ none) (congrArg₂ maximumf (congrArg₂ addf ?_ ?_) ?_) ?_
    · refine congrArg (Host.scatterAdd _ _ _) (congrArg₂ mulf ?_ ?_) <;> rfl
    all_goals rfl
  rw [h, ref_weights₁, ref_scores₁, ref_messages₁, ref_sources, ref_destinations]
  rfl

/-- The second layer's scores before the leaky rectifier. -/
theorem ref_raw₂ : res_main_v114 V = score (referenceNodeScore (res_main_v85 V) (inputsOf V).src₂) (referenceNodeScore (res_main_v85 V) (inputsOf V).dst₂)
    (referenceEdgeScore (inputsOf V).edgeFeatures (inputsOf V).We₂ (inputsOf V).edge₂) (res_main_v1 V) (res_main_v3 V) := by
  unfold res_main_v114 score
  refine congrArg₂ addf (congrArg₂ addf ?_ ?_) ?_ <;> rfl

/-- The second layer's scores. -/
theorem ref_scores₂ : res_main_v115 V = referenceScores (inputsOf V) (referenceMessages₂ (inputsOf V)) (inputsOf V).src₂ (inputsOf V).dst₂
    (inputsOf V).We₂ (inputsOf V).edge₂ := by
  have h : res_main_v115 V = leaky (res_main_v114 V) := rfl
  rw [h, ref_raw₂, ref_messages₂, ref_sources, ref_destinations]
  rfl

/-- The second layer's greatest scores per node. -/
theorem ref_greatest₂ : res_main_v124 V = greatest (res_main_v115 V) (res_main_v3 V) := rfl

/-- The second layer's unnormalized weights. -/
theorem ref_weights₂ : res_main_v137 V = referenceWeights (res_main_v115 V) (greatest (res_main_v115 V) (res_main_v3 V)) (res_main_v3 V) := by
  rw [← ref_greatest₂]
  unfold res_main_v137 referenceWeights
  refine congrArg Host.exp (congrArg₂ subf rfl ?_)
  rfl

/-- The network from the named values, up to its `tanh`. -/
theorem ref_net : head (referenceSums (referenceLayer (res_main_v85 V) (res_main_v137 V) (res_main_v1 V) (res_main_v3 V) (inputsOf V).b₂) (inputsOf V).batch)
      (referenceCounts (inputsOf V).batch) (inputsOf V).Wl (inputsOf V).bl = referenceNet (inputsOf V) := by
  rw [ref_weights₂, ref_scores₂, ref_messages₂, ref_sources, ref_destinations]
  rfl

/-- The reference's run: the result array at the `tanh` of the reference's network. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v181)
        = Host.tanh (F := Ideal) (s := S64x1) (φ := .f32) (referenceNet (inputsOf (launchContents m c))) := by
  refine (θ_run _ _ _).mono (fun r h c => (h c).1.trans ?_) (run (F := Ideal) m ρ)
  rw [← ref_net]
  generalize launchContents m c = W
  unfold head referenceSums referenceLayer addBias gathered
  refine congrArg Host.tanh (congrArg₂ addf (congrArg₂ (Host.dotGeneral _ none) (congrArg₂ Host.divf ?_ ?_) ?_) ?_)
  · refine congrArg (Host.scatterAdd _ _ _) (congrArg₂ addf ?_ ?_)
    · refine congrArg (Host.scatterAdd _ _ _) (congrArg₂ mulf ?_ ?_) <;> rfl
    · rfl
  all_goals rfl

end Cert.Gat

end
-- ==== Proof.lean ====
/-
  The claims of this directory, proved: each program leaves its arguments as they are and ends with every semaphore at zero, and over exact values the kernel's
  idealization and the reference's return one result wherever the tested inputs are finite.
-/
module

public import proofs.«01_k».proof.Defs
public import proofs.«01_k».proof.Proof.Gen.Kernel
public import proofs.«01_k».proof.Proof.Gen.Kernel.Frame
public import proofs.«01_k».proof.Proof.Agree
public import proofs.«01_k».proof.Proof.Finite
public import proofs.«01_k».proof.Proof.KernelRun
public import proofs.«01_k».proof.Proof.RefRun
public import Idealize.ShloMosaic.Lib.Quiescent

@[expose] public section

set_option maxRecDepth 16384

noncomputable section

namespace Cert.Proof

open Idealize.ShloMosaic Idealize.SL.Sem

/-- `Cert.quiescent_ReferenceIdeal`: the reference leaves its arguments as they are, and having no semaphore ends with all at zero. -/
theorem reference_quiescent : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- `Cert.algebraic_KernelIdeal_ReferenceIdeal_pre_finite_inputs`: both results are the `tanh` of one network, the kernel's and the reference's agreeing where the
    precondition holds. -/
theorem value : Cert.algebraic_KernelIdeal_ReferenceIdeal_pre_finite_inputs (hPre_finite_inputs := Cert.Gat.preFacts) := by
  intro m g m' g' hpre hagree
  refine ⟨fun c => Host.tanh (F := Ideal) (s := Cert.KernelIdeal.S64x1) (φ := .f32) (Cert.Gat.kernelNet (Cert.Gat.kernelInputs m c)), ?_, ?_⟩
  · exact (θ_run Cert.KernelIdeal.defs _ _).mono (fun r h c => ⟨(h c).1.trans (Cert.Gat.result_eq m c), (h c).2⟩)
      (Cert.KernelIdeal.Value.run_blocks (F := Ideal) m g)
  · refine (θ_run Cert.ReferenceIdeal.defs _ _).mono (fun r h c => ⟨(h.1 c).trans ?_, (h.2 c).2⟩)
      (θ_run_and (Cert.Gat.reference_run m' g') (Cert.ReferenceIdeal.Value.run (F := Ideal) m' g'))
    have hin : Cert.Gat.inputsOf (StableHlo.launchContents m' c) = Cert.Gat.kernelInputs m c := by
      rw [Cert.Gat.inputsOf, Cert.Gat.kernelInputs, Cert.Gat.Inputs.mk.injEq]
      exact hagree c
    haveI := Cert.Gat.preFacts
    rw [hin]
    exact congrArg (Host.tanh (F := Ideal) (s := Cert.KernelIdeal.S64x1) (φ := .f32))
      (Cert.Gat.net_eq (Cert.Gat.kernelInputs m c) (Cert.Gat.finite_inputs_real (Cert.Gat.kernelInputs m c) (hpre c))).symm

/-- Every claim of this directory. -/
theorem claim : Cert.Claim := ⟨Cert.Kernel.Gen.facts, Cert.KernelIdeal.Gen.facts, Cert.ReferenceIdeal.Gen.facts, Cert.Gat.preFacts,
  fun m g _ => Cert.Kernel.Gen.frame m g, fun m g _ => Cert.KernelIdeal.Gen.frame m g, fun m g _ => Cert.KernelIdeal.Gen.frame m g,
  reference_quiescent, fun m g _ => reference_quiescent m g trivial, trivial, value⟩

end Cert.Proof

end
